-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S4x96x224x224 : Shape := ⟨4, ![4, 96, 224, 224]⟩
abbrev S9x1x3x3 : Shape := ⟨4, ![9, 1, 3, 3]⟩
abbrev S96x9x1x1 : Shape := ⟨4, ![96, 9, 1, 1]⟩
abbrev S_ : Shape := ⟨0, ![]⟩

class Facts : Prop where
  bcast_S_S4x96x224x224 : S_.BroadcastsInDim S4x96x224x224 (![] : Fin 0 → Fin S4x96x224x224.rank)
  reducesTo_S4x96x224x224_S_d0_1_2_3 : S4x96x224x224.ReducesTo [0, 1, 2, 3] S_
  h_S_ : 0 < S_.numel
  bcast_S_S9x1x3x3 : S_.BroadcastsInDim S9x1x3x3 (![] : Fin 0 → Fin S9x1x3x3.rank)
  reducesTo_S9x1x3x3_S_d0_1_2_3 : S9x1x3x3.ReducesTo [0, 1, 2, 3] S_
  bcast_S_S96x9x1x1 : S_.BroadcastsInDim S96x9x1x1 (![] : Fin 0 → Fin S96x9x1x1.rank)
  reducesTo_S96x9x1x1_S_d0_1_2_3 : S96x9x1x1.ReducesTo [0, 1, 2, 3] S_

variable [Facts]

def fn {F : FTy → Type} [FloatOps F] (main_arg0 : FVec F S4x96x224x224 .f32) (main_arg1 : FVec F S4x96x224x224 .f32) (main_arg2 : FVec F S9x1x3x3 .f32) (main_arg3 : FVec F S96x9x1x1 .f32) : IVec S_ 1 :=
  let main_cst : FVec F S_ .f32 := constant S_ .f32 0x00000000#32
  let main_v0 : FVec F S4x96x224x224 .f32 := broadcastInDim S4x96x224x224 ![] bcast_S_S4x96x224x224 main_cst
  let main_v1 : IVec S4x96x224x224 1 := cmpf .une main_arg0 main_v0
  let main_c : IVec S_ 1 := constantI S_ 1 0#1
  let main_v2 : IVec S_ 1 := (fun x v => Host.reduce IntOp.ori x v reducesTo_S4x96x224x224_S_d0_1_2_3 h_S_) main_v1 main_c
  let main_cst_0 : FVec F S_ .f32 := constant S_ .f32 0x3F800000#32
  let main_v3 : FVec F S9x1x3x3 .f32 := broadcastInDim S9x1x3x3 ![] bcast_S_S9x1x3x3 main_cst_0
  let main_v4 : IVec S9x1x3x3 1 := cmpf .oeq main_arg2 main_v3
  let main_c_1 : IVec S_ 1 := constantI S_ 1 1#1
  let main_v5 : IVec S_ 1 := (fun x v => Host.reduce IntOp.andi x v reducesTo_S9x1x3x3_S_d0_1_2_3 h_S_) main_v4 main_c_1
  let main_v6 : IVec S_ 1 := andi main_v2 main_v5
  let main_cst_2 : FVec F S_ .f32 := constant S_ .f32 0x3F800000#32
  let main_v7 : FVec F S96x9x1x1 .f32 := broadcastInDim S96x9x1x1 ![] bcast_S_S96x9x1x1 main_cst_2
  let main_v8 : IVec S96x9x1x1 1 := cmpf .oeq main_arg3 main_v7
  let main_c_3 : IVec S_ 1 := constantI S_ 1 1#1
  let main_v9 : IVec S_ 1 := (fun x v => Host.reduce IntOp.andi x v reducesTo_S96x9x1x1_S_d0_1_2_3 h_S_) main_v8 main_c_3
  let main_v10 : IVec S_ 1 := andi main_v6 main_v9
  main_v10
-- ==== Kernel.lean ====
abbrev S4x96x224x224 : Shape := ⟨4, ![4, 96, 224, 224]⟩
abbrev S9x1x3x3 : Shape := ⟨4, ![9, 1, 3, 3]⟩
abbrev S96x9x1x1 : Shape := ⟨4, ![96, 9, 1, 1]⟩
abbrev S4x8x226x226 : Shape := ⟨4, ![4, 8, 226, 226]⟩
abbrev S4x224x224 : Shape := ⟨3, ![4, 224, 224]⟩
abbrev S4x1x1 : Shape := ⟨3, ![4, 1, 1]⟩
abbrev S1x24x224x224 : Shape := ⟨4, ![1, 24, 224, 224]⟩
abbrev S1x8x226x226 : Shape := ⟨4, ![1, 8, 226, 226]⟩
abbrev S1x224x224 : Shape := ⟨3, ![1, 224, 224]⟩
abbrev S1x1x1 : Shape := ⟨3, ![1, 1, 1]⟩
abbrev S24x232x226 : Shape := ⟨3, ![24, 232, 226]⟩
abbrev S24x226x226 : Shape := ⟨3, ![24, 226, 226]⟩
abbrev S24x224x224 : Shape := ⟨3, ![24, 224, 224]⟩
abbrev S24x4x224 : Shape := ⟨3, ![24, 4, 224]⟩
abbrev S24x228x224 : Shape := ⟨3, ![24, 228, 224]⟩
abbrev S24x232x224 : Shape := ⟨3, ![24, 232, 224]⟩
abbrev S24x232x4 : Shape := ⟨3, ![24, 232, 4]⟩
abbrev S24x232x228 : Shape := ⟨3, ![24, 232, 228]⟩
abbrev S24x232x232 : Shape := ⟨3, ![24, 232, 232]⟩
abbrev S226x226 : Shape := ⟨2, ![226, 226]⟩
abbrev S224x224 : Shape := ⟨2, ![224, 224]⟩
abbrev S1x1x226x226 : Shape := ⟨4, ![1, 1, 226, 226]⟩
abbrev S4x224 : Shape := ⟨2, ![4, 224]⟩
abbrev S228x224 : Shape := ⟨2, ![228, 224]⟩
abbrev S232x224 : Shape := ⟨2, ![232, 224]⟩
abbrev S232x4 : Shape := ⟨2, ![232, 4]⟩
abbrev S232x228 : Shape := ⟨2, ![232, 228]⟩
abbrev S232x232 : Shape := ⟨2, ![232, 232]⟩
abbrev S1x226x226 : Shape := ⟨3, ![1, 226, 226]⟩
abbrev S1 : Shape := ⟨1, ![1]⟩
abbrev S1x32x224x224 : Shape := ⟨4, ![1, 32, 224, 224]⟩
abbrev S1x4x1x1 : Shape := ⟨4, ![1, 4, 1, 1]⟩
abbrev S1x1x1x1 : Shape := ⟨4, ![1, 1, 1, 1]⟩
abbrev S224x226 : Shape := ⟨2, ![224, 226]⟩
abbrev S32x224x224 : Shape := ⟨3, ![32, 224, 224]⟩

abbrev nBuf : Space → Nat
  | .hbm => 8
  | .vmem => 23
  | .smem => 0
  | _ => 0

abbrev bufTy : (tb : Table) → Fin (tcTables nBuf tb) → BufTy
  | .hbm, ⟨0, _⟩ => ⟨S4x96x224x224, .f32⟩
  | .hbm, ⟨1, _⟩ => ⟨S4x96x224x224, .f32⟩
  | .hbm, ⟨2, _⟩ => ⟨S9x1x3x3, .f32⟩
  | .hbm, ⟨3, _⟩ => ⟨S96x9x1x1, .f32⟩
  | .hbm, ⟨4, _⟩ => ⟨S4x8x226x226, .f32⟩
  | .hbm, ⟨5, _⟩ => ⟨S4x224x224, .f32⟩
  | .hbm, ⟨6, _⟩ => ⟨S4x1x1, .f32⟩
  | .hbm, ⟨7, _⟩ => ⟨S4x96x224x224, .f32⟩
  | .local _ .vmem, ⟨0, _⟩ => ⟨S1x24x224x224, .f32⟩
  | .local _ .vmem, ⟨1, _⟩ => ⟨S1x24x224x224, .f32⟩
  | .local _ .vmem, ⟨2, _⟩ => ⟨S1x8x226x226, .f32⟩
  | .local _ .vmem, ⟨3, _⟩ => ⟨S1x8x226x226, .f32⟩
  | .local _ .vmem, ⟨4, _⟩ => ⟨S1x224x224, .f32⟩
  | .local _ .vmem, ⟨5, _⟩ => ⟨S1x224x224, .f32⟩
  | .local _ .vmem, ⟨6, _⟩ => ⟨S1x1x1, .f32⟩
  | .local _ .vmem, ⟨7, _⟩ => ⟨S1x1x1, .f32⟩
  | .local _ .vmem, ⟨8, _⟩ => ⟨S24x232x226, .f32⟩
  | .local _ .vmem, ⟨9, _⟩ => ⟨S24x232x226, .f32⟩
  | .local _ .vmem, ⟨10, _⟩ => ⟨S24x232x226, .f32⟩
  | .local _ .vmem, ⟨11, _⟩ => ⟨S24x232x226, .f32⟩
  | .local _ .vmem, ⟨12, _⟩ => ⟨S24x226x226, .f32⟩
  | .local _ .vmem, ⟨13, _⟩ => ⟨S1x8x226x226, .f32⟩
  | .local _ .vmem, ⟨14, _⟩ => ⟨S1x8x226x226, .f32⟩
  | .local _ .vmem, ⟨15, _⟩ => ⟨S1x224x224, .f32⟩
  | .local _ .vmem, ⟨16, _⟩ => ⟨S1x224x224, .f32⟩
  | .local _ .vmem, ⟨17, _⟩ => ⟨S4x1x1, .f32⟩
  | .local _ .vmem, ⟨18, _⟩ => ⟨S1x32x224x224, .f32⟩
  | .local _ .vmem, ⟨19, _⟩ => ⟨S1x32x224x224, .f32⟩
  | .local _ .vmem, ⟨20, _⟩ => ⟨S1x32x224x224, .f32⟩
  | .local _ .vmem, ⟨21, _⟩ => ⟨S1x32x224x224, .f32⟩
  | .local _ .vmem, ⟨22, _⟩ => ⟨S224x224, .f32⟩
  | _, _ => ⟨S4x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32_51 : BitVec 32 := 0#32
  let v58 : BitVec 1 := Scalar.cmpi .eq arg1 c0_i32_51
  let v59 : BitVec 32 := Scalar.extui v58
  let c0_i32_52 : BitVec 32 := 0#32
  let v60 : BitVec 1 := Scalar.cmpi .ne v59 c0_i32_52
  v60

def k0_cond2 (i : grid0.Coords) : BitVec 1 :=
  let arg1 : BitVec 32 := BitVec.ofNat 32 (i 1).val
  let c0_i32_53 : BitVec 32 := 0#32
  let v61 : BitVec 1 := Scalar.cmpi .sgt arg1 c0_i32_53
  let v62 : BitVec 32 := Scalar.extui v61
  let c0_i32_54 : BitVec 32 := 0#32
  let v63 : BitVec 1 := Scalar.cmpi .ne v62 c0_i32_54
  v63

def k0_cond3 (i : grid0.Coords) : BitVec 1 :=
  let arg1 : BitVec 32 := BitVec.ofNat 32 (i 1).val
  let c3_i32 : BitVec 32 := 3#32
  let v64 : BitVec 1 := Scalar.cmpi .eq arg1 c3_i32
  let v65 : BitVec 32 := Scalar.extui v64
  let c0_i32_55 : BitVec 32 := 0#32
  let v66 : BitVec 1 := Scalar.cmpi .ne v65 c0_i32_55
  v66

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x24x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x226x226 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x224x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 3], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x8x226x226 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x224x224 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S4x1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x32x224x224 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x32x224x224 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S4x96x224x224 : Shape := ⟨4, ![4, 96, 224, 224]⟩
abbrev S9x1x3x3 : Shape := ⟨4, ![9, 1, 3, 3]⟩
abbrev S96x9x1x1 : Shape := ⟨4, ![96, 9, 1, 1]⟩
abbrev S_ : Shape := ⟨0, ![]⟩
abbrev S4x96x233x233 : Shape := ⟨4, ![4, 96, 233, 233]⟩
abbrev S4x96x226x226 : Shape := ⟨4, ![4, 96, 226, 226]⟩
abbrev S4x226x226 : Shape := ⟨3, ![4, 226, 226]⟩
abbrev S4x1x226x226 : Shape := ⟨4, ![4, 1, 226, 226]⟩
abbrev S4x9x226x226 : Shape := ⟨4, ![4, 9, 226, 226]⟩
abbrev S4x9x224x224 : Shape := ⟨4, ![4, 9, 224, 224]⟩
abbrev S9x1x1x1 : Shape := ⟨4, ![9, 1, 1, 1]⟩
abbrev S9 : Shape := ⟨1, ![9]⟩
abbrev S1x9x1x1 : Shape := ⟨4, ![1, 9, 1, 1]⟩
abbrev S96x9 : Shape := ⟨2, ![96, 9]⟩
abbrev S96x4x224x224 : Shape := ⟨4, ![96, 4, 224, 224]⟩
abbrev S4x96 : Shape := ⟨2, ![4, 96]⟩
abbrev S4x96x1x1 : Shape := ⟨4, ![4, 96, 1, 1]⟩

abbrev nBuf : Space → Nat
  | .hbm => 167
  | .vmem => 0
  | .smem => 0
  | _ => 0

abbrev hbmTy0_0 (i : Nat) : BufTy := match i % 128 with
  | 0 => ⟨S4x96x224x224, .f32⟩
  | 1 => ⟨S4x96x224x224, .f32⟩
  | 2 => ⟨S9x1x3x3, .f32⟩
  | 3 => ⟨S96x9x1x1, .f32⟩
  | 4 => ⟨S_, .i32⟩
  | 5 => ⟨S_, .f32⟩
  | 6 => ⟨S4x96x233x233, .f32⟩
  | 7 => ⟨S4x96x226x226, .f32⟩
  | 8 => ⟨S4x96x226x226, .f32⟩
  | 9 => ⟨S4x96x226x226, .f32⟩
  | 10 => ⟨S4x96x226x226, .f32⟩
  | 11 => ⟨S_, .f32⟩
  | 12 => ⟨S4x226x226, .f32⟩
  | 13 => ⟨S4x96x226x226, .f32⟩
  | 14 => ⟨S4x96x226x226, .f32⟩
  | 15 => ⟨S4x96x226x226, .f32⟩
  | 16 => ⟨S_, .f32⟩
  | 17 => ⟨S4x226x226, .f32⟩
  | 18 => ⟨S4x96x226x226, .f32⟩
  | 19 => ⟨S4x96x226x226, .f32⟩
  | 20 => ⟨S4x96x226x226, .f32⟩
  | 21 => ⟨S_, .f32⟩
  | 22 => ⟨S4x226x226, .f32⟩
  | 23 => ⟨S4x96x226x226, .f32⟩
  | 24 => ⟨S4x96x226x226, .f32⟩
  | 25 => ⟨S4x96x226x226, .f32⟩
  | 26 => ⟨S_, .f32⟩
  | 27 => ⟨S4x226x226, .f32⟩
  | 28 => ⟨S4x96x226x226, .f32⟩
  | 29 => ⟨S4x96x226x226, .f32⟩
  | 30 => ⟨S4x96x226x226, .f32⟩
  | 31 => ⟨S_, .f32⟩
  | 32 => ⟨S4x226x226, .f32⟩
  | 33 => ⟨S4x96x226x226, .f32⟩
  | 34 => ⟨S4x96x226x226, .f32⟩
  | 35 => ⟨S4x96x226x226, .f32⟩
  | 36 => ⟨S_, .f32⟩
  | 37 => ⟨S4x226x226, .f32⟩
  | 38 => ⟨S4x96x226x226, .f32⟩
  | 39 => ⟨S4x96x226x226, .f32⟩
  | 40 => ⟨S4x96x226x226, .f32⟩
  | 41 => ⟨S_, .f32⟩
  | 42 => ⟨S4x226x226, .f32⟩
  | 43 => ⟨S4x96x226x226, .f32⟩
  | 44 => ⟨S4x96x226x226, .f32⟩
  | 45 => ⟨S4x96x226x226, .f32⟩
  | 46 => ⟨S_, .f32⟩
  | 47 => ⟨S4x226x226, .f32⟩
  | 48 => ⟨S4x96x226x226, .f32⟩
  | 49 => ⟨S4x96x226x226, .f32⟩
  | 50 => ⟨S4x96x226x226, .f32⟩
  | 51 => ⟨S_, .f32⟩
  | 52 => ⟨S4x226x226, .f32⟩
  | 53 => ⟨S4x1x226x226, .f32⟩
  | 54 => ⟨S4x1x226x226, .f32⟩
  | 55 => ⟨S4x1x226x226, .f32⟩
  | 56 => ⟨S4x1x226x226, .f32⟩
  | 57 => ⟨S4x1x226x226, .f32⟩
  | 58 => ⟨S4x1x226x226, .f32⟩
  | 59 => ⟨S4x1x226x226, .f32⟩
  | 60 => ⟨S4x1x226x226, .f32⟩
  | 61 => ⟨S4x1x226x226, .f32⟩
  | 62 => ⟨S4x9x226x226, .f32⟩
  | 63 => ⟨S4x9x224x224, .f32⟩
  | 64 => ⟨S9x1x1x1, .f32⟩
  | 65 => ⟨S9, .f32⟩
  | 66 => ⟨S1x9x1x1, .f32⟩
  | 67 => ⟨S4x9x224x224, .f32⟩
  | 68 => ⟨S4x9x224x224, .f32⟩
  | 69 => ⟨S_, .f32⟩
  | 70 => ⟨S4x9x224x224, .f32⟩
  | 71 => ⟨S4x9x224x224, .f32⟩
  | 72 => ⟨S4x9x224x224, .f32⟩
  | 73 => ⟨S9x1x1x1, .f32⟩
  | 74 => ⟨S9, .f32⟩
  | 75 => ⟨S1x9x1x1, .f32⟩
  | 76 => ⟨S4x9x224x224, .f32⟩
  | 77 => ⟨S4x9x224x224, .f32⟩
  | 78 => ⟨S4x9x224x224, .f32⟩
  | 79 => ⟨S4x9x224x224, .f32⟩
  | 80 => ⟨S9x1x1x1, .f32⟩
  | 81 => ⟨S9, .f32⟩
  | 82 => ⟨S1x9x1x1, .f32⟩
  | 83 => ⟨S4x9x224x224, .f32⟩
  | 84 => ⟨S4x9x224x224, .f32⟩
  | 85 => ⟨S4x9x224x224, .f32⟩
  | 86 => ⟨S4x9x224x224, .f32⟩
  | 87 => ⟨S9x1x1x1, .f32⟩
  | 88 => ⟨S9, .f32⟩
  | 89 => ⟨S1x9x1x1, .f32⟩
  | 90 => ⟨S4x9x224x224, .f32⟩
  | 91 => ⟨S4x9x224x224, .f32⟩
  | 92 => ⟨S4x9x224x224, .f32⟩
  | 93 => ⟨S4x9x224x224, .f32⟩
  | 94 => ⟨S9x1x1x1, .f32⟩
  | 95 => ⟨S9, .f32⟩
  | 96 => ⟨S1x9x1x1, .f32⟩
  | 97 => ⟨S4x9x224x224, .f32⟩
  | 98 => ⟨S4x9x224x224, .f32⟩
  | 99 => ⟨S4x9x224x224, .f32⟩
  | 100 => ⟨S4x9x224x224, .f32⟩
  | 101 => ⟨S9x1x1x1, .f32⟩
  | 102 => ⟨S9, .f32⟩
  | 103 => ⟨S1x9x1x1, .f32⟩
  | 104 => ⟨S4x9x224x224, .f32⟩
  | 105 => ⟨S4x9x224x224, .f32⟩
  | 106 => ⟨S4x9x224x224, .f32⟩
  | 107 => ⟨S4x9x224x224, .f32⟩
  | 108 => ⟨S9x1x1x1, .f32⟩
  | 109 => ⟨S9, .f32⟩
  | 110 => ⟨S1x9x1x1, .f32⟩
  | 111 => ⟨S4x9x224x224, .f32⟩
  | 112 => ⟨S4x9x224x224, .f32⟩
  | 113 => ⟨S4x9x224x224, .f32⟩
  | 114 => ⟨S4x9x224x224, .f32⟩
  | 115 => ⟨S9x1x1x1, .f32⟩
  | 116 => ⟨S9, .f32⟩
  | 117 => ⟨S1x9x1x1, .f32⟩
  | 118 => ⟨S4x9x224x224, .f32⟩
  | 119 => ⟨S4x9x224x224, .f32⟩
  | 120 => ⟨S4x9x224x224, .f32⟩
  | 121 => ⟨S4x9x224x224, .f32⟩
  | 122 => ⟨S9x1x1x1, .f32⟩
  | 123 => ⟨S9, .f32⟩
  | 124 => ⟨S1x9x1x1, .f32⟩
  | 125 => ⟨S4x9x224x224, .f32⟩
  | 126 => ⟨S4x9x224x224, .f32⟩
  | 127 => ⟨S4x9x224x224, .f32⟩
  | _ => ⟨S4x96x224x224, .f32⟩

abbrev hbmTy0_1 (i : Nat) : BufTy := match i % 128 with
  | 0 => ⟨S4x9x224x224, .f32⟩
  | 1 => ⟨S_, .f32⟩
  | 2 => ⟨S_, .f32⟩
  | 3 => ⟨S_, .f32⟩
  | 4 => ⟨S_, .f32⟩
  | 5 => ⟨S4x9x224x224, .f32⟩
  | 6 => ⟨S4x9x224x224, .f32⟩
  | 7 => ⟨S_, .f32⟩
  | 8 => ⟨S4x9x224x224, .f32⟩
  | 9 => ⟨S4x9x224x224, .f32⟩
  | 10 => ⟨S_, .f32⟩
  | 11 => ⟨S4x9x224x224, .f32⟩
  | 12 => ⟨S4x9x224x224, .f32⟩
  | 13 => ⟨S4x9x224x224, .f32⟩
  | 14 => ⟨S96x9, .f32⟩
  | 15 => ⟨S96x4x224x224, .f32⟩
  | 16 => ⟨S4x96x224x224, .f32⟩
  | 17 => ⟨S_, .f32⟩
  | 18 => ⟨S4x96x224x224, .f32⟩
  | 19 => ⟨S4x96x224x224, .f32⟩
  | 20 => ⟨S_, .f32⟩
  | 21 => ⟨S4x96x224x224, .f32⟩
  | 22 => ⟨S4x96x224x224, .f32⟩
  | 23 => ⟨S_, .f32⟩
  | 24 => ⟨S4x96, .f32⟩
  | 25 => ⟨S4x96x1x1, .f32⟩
  | 26 => ⟨S4x96x224x224, .f32⟩
  | 27 => ⟨S4x96x224x224, .f32⟩
  | 28 => ⟨S_, .f32⟩
  | 29 => ⟨S4x96x224x224, .f32⟩
  | 30 => ⟨S4x96x224x224, .f32⟩
  | 31 => ⟨S_, .f32⟩
  | 32 => ⟨S4x96x224x224, .f32⟩
  | 33 => ⟨S4x96x224x224, .f32⟩
  | 34 => ⟨S_, .f32⟩
  | 35 => ⟨S4x96x224x224, .f32⟩
  | 36 => ⟨S4x96x224x224, .f32⟩
  | 37 => ⟨S4x96x224x224, .f32⟩
  | 38 => ⟨S4x96x224x224, .f32⟩
  | _ => ⟨S4x96x224x224, .f32⟩

abbrev hbmTy (i : Nat) : BufTy := match i / 128 with
  | 0 => hbmTy0_0 i
  | 1 => hbmTy0_1 i
  | _ => ⟨S4x96x224x224, .f32⟩

abbrev bufTy : (tb : Table) → Fin (tcTables nBuf tb) → BufTy
  | .hbm, ⟨i, _⟩ => hbmTy i
  | _, _ => ⟨S4x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_cst_9 : Ref sig .tc := ⟨.hbm, 129, rfl⟩
abbrev main_v113 : Ref sig .tc := ⟨.hbm, 130, rfl⟩
abbrev main_cst_10 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_cst_11 : Ref sig .tc := ⟨.hbm, 135, rfl⟩
abbrev main_v117 : Ref sig .tc := ⟨.hbm, 136, rfl⟩
abbrev main_v118 : Ref sig .tc := ⟨.hbm, 137, rfl⟩
abbrev main_cst_12 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_cst_13 : Ref sig .tc := ⟨.hbm, 145, rfl⟩
abbrev main_v125 : Ref sig .tc := ⟨.hbm, 146, rfl⟩
abbrev main_v126 : Ref sig .tc := ⟨.hbm, 147, rfl⟩
abbrev main_cst_14 : Ref sig .tc := ⟨.hbm, 148, rfl⟩
abbrev main_v127 : Ref sig .tc := ⟨.hbm, 149, rfl⟩
abbrev main_v128 : Ref sig .tc := ⟨.hbm, 150, rfl⟩
abbrev main_cst_15 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_cst_16 : Ref sig .tc := ⟨.hbm, 156, rfl⟩
abbrev main_v133 : Ref sig .tc := ⟨.hbm, 157, rfl⟩
abbrev main_v134 : Ref sig .tc := ⟨.hbm, 158, rfl⟩
abbrev main_cst_17 : Ref sig .tc := ⟨.hbm, 159, rfl⟩
abbrev main_v135 : Ref sig .tc := ⟨.hbm, 160, rfl⟩
abbrev main_v136 : Ref sig .tc := ⟨.hbm, 161, rfl⟩
abbrev main_cst_18 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩

abbrev nD : Nat := 1
abbrev τ : Topo := Topo.v7x

variable {F : FTy → Type} [FloatOps F]
-- ==== Proof.Pay.lean ====
/- The two kernels' payloads read at an index, over the extended reals. -/
module

public import proofs.«01_k».proof.Proof.Gen.KernelIdeal.Skeleton
public import Idealize.ShloMosaic.Lib.Pointwise

@[expose] public section

set_option maxRecDepth 16384

noncomputable section

namespace Cert.KernelIdeal.Val

open Cert.KernelIdeal.Gen
open Idealize.ShloMosaic Idealize.ShloMosaic.TcCoe

/-- The row at which the shifted copy of each of the eight offsets starts in the padded image. -/
def oy : Fin 8 → ℕ := ![5, 4, 3, 1, 2, 0, 0, 0]
/-- The column at which it starts. -/
def ox : Fin 8 → ℕ := ![5, 4, 6, 3, 4, 6, 5, 4]

/-- An image with four rows and columns of zeros on every side, read at any row and column. -/
def pad2 (v : Fin 224 → Fin 224 → EReal) (y x : ℕ) : EReal :=
  if h : (4 ≤ y ∧ y < 228) ∧ (4 ≤ x ∧ x < 228) then v ⟨y - 4, by omega⟩ ⟨x - 4, by omega⟩ else 0

/-- The four joins by which the programs pad, read at a place, are the padded image. -/
theorem pad2_ite (f : Fin 224 → Fin 224 → EReal) (y x : Fin 232) (z : EReal) (hz : z = 0) :
    (if h : x.val < 228 then if h : x.val < 4 then z else
        if h' : y.val < 228 then if h : y.val < 4 then z else f ⟨y.val - 4, by omega⟩ ⟨x.val - 4, by omega⟩ else z
      else z) = pad2 f y x := by
  unfold pad2
  by_cases a : x.val < 228
  · rw [dif_pos a]
    by_cases b : x.val < 4
    · rw [dif_pos b, dif_neg (by omega), hz]
    · rw [dif_neg b]
      by_cases c : y.val < 228
      · rw [dif_pos c]
        by_cases d : y.val < 4
        · rw [dif_pos d, dif_neg (by omega), hz]
        · rw [dif_neg d, dif_pos (by omega)]
      · rw [dif_neg c, dif_neg (by omega), hz]
  · rw [dif_neg a, dif_neg (by omega), hz]

theorem zero_lit : (((0#32 : BitVec 32).toInt : ℝ) : EReal) = 0 := by norm_num

/-- One channel of a block of 24. -/
def img (v : Vec Ideal S1x24x224x224 .f32) (r : Fin 24) (a b : Fin 224) : EReal := v (ix4 0 r a b)

/-- The one image of a one-image block. -/
def one (v : Vec Ideal S1x224x224 .f32) (a b : Fin 224) : EReal := v (ix3 0 a b)

theorem pay29_at (v : Vec Ideal S1x24x224x224 .f32) (r : Fin 24) (y x : Fin 232) :
    k0_pay29 v (ix3 r y x) = pad2 (img v r) y x := by
  pointwise [k0_pay29, k0_pay28]
  exact pad2_ite (img v r) y x _ zero_lit

theorem pay21_at (v : Vec Ideal S1x224x224 .f32) (y x : Fin 232) : k0_pay21 v (ix2 y x) = pad2 (one v) y x := by
  pointwise [k0_pay21]
  exact pad2_ite (one v) y x _ zero_lit

theorem pay4_at (v : Vec Ideal S1x224x224 .f32) (y x : Fin 232) : k1_pay4 v (ix2 y x) = pad2 (one v) y x := by
  pointwise [k1_pay4]
  exact pad2_ite (one v) y x _ zero_lit

/-- What one block of 24 channels adds to the cross products of one offset. -/
def plane (v : Vec Ideal S1x24x224x224 .f32) (k : Fin 8) (y x : ℕ) : EReal :=
  ∑ r : Fin 24, pad2 (img v r) (3 + y) (3 + x) * pad2 (img v r) (oy k + y) (ox k + x)

/-- What it adds to the squared norm of a pixel. -/
def sqn (v : Vec Ideal S1x24x224x224 .f32) (y x : Fin 224) : EReal := ∑ r : Fin 24, img v r y x * img v r y x

theorem pay30_at (v : Vec Ideal S1x24x224x224 .f32) (r : Fin 24) (y : Fin 232) (x : Fin 226) :
    k0_pay30 v (ix3 r y x) = pad2 (img v r) y (3 + x) := by
  pointwise [k0_pay30]; rw [pay29_at]
theorem pay31_at (v : Vec Ideal S1x24x224x224 .f32) (r : Fin 24) (y : Fin 232) (x : Fin 226) :
    k0_pay31 v (ix3 r y x) = pad2 (img v r) y (4 + x) := by
  pointwise [k0_pay31]; rw [pay29_at]
theorem pay32_at (v : Vec Ideal S1x24x224x224 .f32) (r : Fin 24) (y : Fin 232) (x : Fin 226) :
    k0_pay32 v (ix3 r y x) = pad2 (img v r) y (5 + x) := by
  pointwise [k0_pay32]; rw [pay29_at]
theorem pay33_at (v : Vec Ideal S1x24x224x224 .f32) (r : Fin 24) (y : Fin 232) (x : Fin 226) :
    k0_pay33 v (ix3 r y x) = pad2 (img v r) y (6 + x) := by
  pointwise [k0_pay33]; rw [pay29_at]

/-- The weight of a row or column: the number of three-wide windows of the 226 that hold it. -/
def wt (y : ℕ) : ℕ := min (min (y + 1) (226 - y)) 3

theorem wt_word : ∀ y : Fin 226,
    (IntOp.minsi (IntOp.minsi (IntOp.addi (BitVec.ofNat 32 ↑y) 1#32) (IntOp.subi (226#32) (BitVec.ofNat 32 ↑y))) 3#32).toInt
      = (wt y : ℤ) := by decide +kernel

theorem pay23_at (y x : Fin 226) : k0_pay23 (F := Ideal) (ix2 y x) = ((wt y : ℝ) : EReal) * ((wt x : ℝ) : EReal) := by
  pointwise [k0_pay23]
  show (((_ : ℤ) : ℝ) : EReal) * (((_ : ℤ) : ℝ) : EReal) = _
  rw [wt_word, wt_word]
  simp

/-- The squared distance of a pixel to the one at offset `k`, from the padded squared norms and the cross products. -/
def dist (sq : Vec Ideal S1x224x224 .f32) (p : Vec Ideal S1x1x226x226 .f32) (k : Fin 8) (y x : Fin 226) : EReal :=
  pad2 (one sq) (3 + y) (3 + x) + pad2 (one sq) (oy k + y) (ox k + x) - Ideal.ofBits .f32 0x40000000#32 * p (ix4 0 0 y x)

/-- The weighted sum of all the distances of one image. -/
def total (sq : Vec Ideal S1x224x224 .f32) (p : Fin 8 → Vec Ideal S1x1x226x226 .f32) : EReal :=
  ∑ y : Fin 226, ∑ x : Fin 226, (dist sq (p 0) 0 y x + dist sq (p 1) 1 y x + dist sq (p 2) 2 y x
    + Ideal.ofBits .f32 0x40000000#32 * dist sq (p 3) 3 y x + dist sq (p 4) 4 y x + dist sq (p 5) 5 y x + dist sq (p 6) 6 y x
    + dist sq (p 7) 7 y x) * (((wt y : ℝ) : EReal) * ((wt x : ℝ) : EReal))

theorem pay27_at (sq : Vec Ideal S1x224x224 .f32) (p : Fin 8 → Vec Ideal S1x1x226x226 .f32) (j : S1x1x1.Idx) :
    k0_pay27 (k0_pay21 sq) (k0_pay22 sq) k0_pay23
      (k0_pay26 (k0_pay21 sq) (k0_pay22 sq) (k0_pay24 sq (p 0)) (k0_pay25 sq) (p 1) (p 2) (p 3) (p 4)) (p 5) (p 6) (p 7) j
      = total sq p := by
  pointwise [k0_pay27, k0_pay26, k0_pay25, k0_pay24, k0_pay22, pay21_at, pay23_at]
  unfold total dist
  simp [oy, ox]

end Cert.KernelIdeal.Val
-- ==== Proof.Ref.lean ====
/- What the reference computes, at an index over the extended reals. -/
module

public import proofs.«01_k».proof.Proof.Gen.ReferenceIdeal.Read
public import proofs.«01_k».proof.Proof.Pay
public import Idealize.ShloMosaic.Lib.Pipeline.ValueKit
public import Idealize.ShloMosaic.Lib.Pointwise

@[expose] public section

set_option maxRecDepth 16384

noncomputable section

namespace Cert.ReferenceIdeal.Val

open Cert.ReferenceIdeal Cert.ReferenceIdeal.Gen Cert.ReferenceIdeal.Read
open Cert.KernelIdeal.Val (pad2 pad2_ite)
open Idealize.ShloMosaic Idealize.ShloMosaic.TcCoe Idealize.ShloMosaic.Tactic

/-- Channel `r` of image `b`. -/
def chan (X : Vec Ideal S4x96x224x224 .f32) (b : Fin 4) (r : Fin 96) (y x : Fin 224) : EReal := X (ix4 b r y x)

theorem pad_at (X : Vec Ideal S4x96x224x224 .f32) (b : Fin 4) (r : Fin 96) (y x : Fin 233) :
    val_main_v0 (F := Ideal) X (ix4 b r y x) = pad2 (chan X b r) y x := by
  pointwise [val_main_v0, val_main_call0_v0, val_main_c]
  unfold pad2
  by_cases h : (4 ≤ y.val ∧ y.val < 228) ∧ (4 ≤ x.val ∧ x.val < 228)
  · rw [dif_pos h, dif_pos (by omega)]
    rfl
  · rw [dif_neg h, dif_neg (by omega)]
    show (((0#32 : BitVec 32).toInt : ℝ) : EReal) = 0
    simp

/-- The nine offsets' first rows in the padded image. -/
def ry : Fin 9 → ℕ := ![5, 4, 3, 1, 2, 0, 0, 0, 1]
/-- The nine offsets' first columns in the padded image. -/
def rx : Fin 9 → ℕ := ![5, 4, 6, 3, 4, 6, 5, 4, 3]

/-- The squared distance at offset `k`. -/
def dist9 (X : Vec Ideal S4x96x224x224 .f32) (b : Fin 4) (k : Fin 9) (y x : ℕ) : EReal :=
  ∑ r : Fin 96, (pad2 (chan X b r) (3 + y) (3 + x) - pad2 (chan X b r) (ry k + y) (rx k + x))
    * (pad2 (chan X b r) (3 + y) (3 + x) - pad2 (chan X b r) (ry k + y) (rx k + x))

/-- The nine stacked distances. -/
theorem v47_at (X : Vec Ideal S4x96x224x224 .f32) (b : Fin 4) (k : Fin 9) (y x : Fin 226) :
    val_main_v47 (F := Ideal) X (ix4 b k y x) = dist9 X b k y x := by
  pointwise [val_main_v47, val_main_v38, val_main_v39, val_main_v40, val_main_v41, val_main_v42, val_main_v43, val_main_v44, val_main_v45, val_main_v46,
    val_main_v5, val_main_v4, val_main_v3, val_main_v2, val_main_cst, val_main_v9, val_main_v8, val_main_v7, val_main_v6, val_main_cst_0, val_main_v13, val_main_v12, val_main_v11, val_main_v10, val_main_cst_1, val_main_v17, val_main_v16, val_main_v15, val_main_v14, val_main_cst_2, val_main_v21, val_main_v20, val_main_v19, val_main_v18, val_main_cst_3, val_main_v25, val_main_v24, val_main_v23, val_main_v22, val_main_cst_4, val_main_v29, val_main_v28, val_main_v27, val_main_v26, val_main_cst_5, val_main_v33, val_main_v32, val_main_v31, val_main_v30, val_main_cst_6, val_main_v37, val_main_v36, val_main_v35, val_main_v34, val_main_cst_7, val_main_v1, pad_at]
  fin_cases k <;> simp [dist9, ry, rx]

/-- The three by three sum of the distances at offset `k`, row by row. -/
def box9 (X : Vec Ideal S4x96x224x224 .f32) (b : Fin 4) (k : Fin 9) (y x : ℕ) : EReal :=
  dist9 X b k y x + dist9 X b k y (1 + x) + dist9 X b k y (2 + x)
    + dist9 X b k (1 + y) x + dist9 X b k (1 + y) (1 + x) + dist9 X b k (1 + y) (2 + x)
    + dist9 X b k (2 + y) x + dist9 X b k (2 + y) (1 + x) + dist9 X b k (2 + y) (2 + x)

theorem v111_at (X : Vec Ideal S4x96x224x224 .f32) (W : Vec Ideal S9x1x3x3 .f32) (hW : ∀ j, W j = (1 : EReal)) (b : Fin 4) (k : Fin 9) (y x : Fin 224) :
    val_main_v111 (F := Ideal) X W (ix4 b k y x) = box9 X b k y x := by
  pointwise [val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_cst_8, v47_at, hW]
  rfl

/-- The mean of all the sums. -/
def mean9 (X : Vec Ideal S4x96x224x224 .f32) : EReal :=
  Ideal.div (∑ b : Fin 4, ∑ k : Fin 9, ∑ y : Fin 224, ∑ x : Fin 224, box9 X b k y x) (Ideal.ofBits .f32 0x49DC8000#32)

theorem v114_at (X : Vec Ideal S4x96x224x224 .f32) (W : Vec Ideal S9x1x3x3 .f32) (hW : ∀ j, W j = (1 : EReal)) (i : S_.Idx) :
    val_main_v114 (F := Ideal) X W i = mean9 X := by
  pointwise [val_main_v114, val_main_v113, val_main_cst_9, val_main_cst_10]
  refine congrArg (fun z => Ideal.div z (Ideal.ofBits .f32 0x49DC8000#32)) ?_
  refine (Ideal.hostReduceAdd_total _ (fun b => b.elim0) _ _ _).trans ?_
  rw [zero_add, sum_idx4]
  simp only [v111_at X W hW]

/-- One offset's weight. -/
def wexp9 (X : Vec Ideal S4x96x224x224 .f32) (b : Fin 4) (k : Fin 9) (y x : Fin 224) : EReal :=
  Ideal.exp (Ideal.div (Ideal.div (Ideal.div (-box9 X b k y x) (mean9 X)) (Ideal.ofBits .f32 0x40000000#32)) 1)

theorem v121_at (X : Vec Ideal S4x96x224x224 .f32) (W : Vec Ideal S9x1x3x3 .f32) (hW : ∀ j, W j = (1 : EReal)) (b : Fin 4) (k : Fin 9) (y x : Fin 224) :
    val_main_v121 (F := Ideal) X W (ix4 b k y x) = wexp9 X b k y x := by
  pointwise [val_main_v121, val_main_v120, val_main_v119, val_main_v118, val_main_v117, val_main_v116, val_main_v115, val_main_v112, val_main_cst_11, val_main_cst_12,
    v111_at X W hW, v114_at X W hW]
  rfl

/-- The nine offsets' mean weight, raised to the power. -/
def powed9 (X : Vec Ideal S4x96x224x224 .f32) (b : Fin 4) (y x : Fin 224) : EReal :=
  Ideal.pow (Ideal.div (∑ k : Fin 9, wexp9 X b k y x) (Ideal.ofBits .f32 0x41100000#32)) (Ideal.ofBits .f32 0x42055555#32)

theorem v128_at (X : Vec Ideal S4x96x224x224 .f32) (W : Vec Ideal S9x1x3x3 .f32) (hW : ∀ j, W j = (1 : EReal))
    (R : Vec Ideal S96x9x1x1 .f32) (hR : ∀ j, R j = (1 : EReal)) (b : Fin 4) (o : Fin 96) (y x : Fin 224) :
    val_main_v128 (F := Ideal) X W R (ix4 b o y x) = powed9 X b y x := by
  pointwise [val_main_v128, val_main_v127, val_main_v126, val_main_v125, val_main_v124, val_main_v123, val_main_v122, val_main_cst_13, val_main_cst_14, v121_at X W hW, hR]
  rfl

/-- What the reference multiplies an image by. -/
def mask9 (X : Vec Ideal S4x96x224x224 .f32) (b : Fin 4) (y x : Fin 224) : EReal :=
  Ideal.exp (Ideal.ofBits .f32 0xBFC00000#32 * Ideal.div (powed9 X b y x) (∑ a : Fin 224, ∑ c : Fin 224, powed9 X b a c)
    * Ideal.ofBits .f32 0x43600000#32 * Ideal.ofBits .f32 0x43600000#32)

theorem v140_at (X Y : Vec Ideal S4x96x224x224 .f32) (W : Vec Ideal S9x1x3x3 .f32) (hW : ∀ j, W j = (1 : EReal))
    (R : Vec Ideal S96x9x1x1 .f32) (hR : ∀ j, R j = (1 : EReal)) (b : Fin 4) (o : Fin 96) (y x : Fin 224) :
    val_main_v140 (F := Ideal) X Y W R (ix4 b o y x) = (Y (ix4 b o y x) : EReal) * mask9 X b y x := by
  pointwise [val_main_v140, val_main_v139, val_main_v138, val_main_v137, val_main_v136, val_main_v135, val_main_v134, val_main_v133, val_main_v132, val_main_v131,
    val_main_v130, val_main_v129, val_main_cst_15, val_main_cst_16, val_main_cst_17, val_main_cst_18, v128_at X W hW R hR]
  rfl

end Cert.ReferenceIdeal.Val
-- ==== Proof.PayM.lean ====
/- What the second call computes, at an index over the extended reals. -/
module

public import proofs.«01_k».proof.Proof.Pay
public import Idealize.ShloMosaic.Lib.Pipeline.ValueKit

@[expose] public section

set_option maxRecDepth 16384

noncomputable section

namespace Cert.KernelIdeal.Val

open Cert.KernelIdeal.Gen
open Idealize.ShloMosaic Idealize.ShloMosaic.TcCoe Idealize.ShloMosaic.Tactic

/-- The mean the second call takes of the four sums. -/
def mean (g : Vec Ideal S4x1x1 .f32) : EReal := Ideal.div (∑ a : Fin 4, g (ix3 a 0 0)) (Ideal.ofBits .f32 0x49DC8000#32)

theorem pay3_at (g : Vec Ideal S4x1x1 .f32) : k1_pay3 g = mean g := by
  unfold k1_pay3
  dsimp only
  refine congrArg (fun z => Ideal.div z (Ideal.ofBits .f32 0x49DC8000#32)) ?_
  refine (Ideal.multiReduction_add_total (φ := .f32) _ 0x00000000#32 reduces_S1x4x1x1_S1 (by decide) (.inl rfl) rfl _).trans ?_
  rw [sum_idx4]
  pointwise []
  simp

/-- The three by three sum of the distances at offset `k`, rows first. -/
def box (sq : Vec Ideal S1x224x224 .f32) (p : Vec Ideal S1x1x226x226 .f32) (k : Fin 8) (y x : Fin 224) : EReal :=
  (dist sq p k ⟨y.val, by omega⟩ ⟨x.val, by omega⟩ + dist sq p k ⟨1 + y.val, by omega⟩ ⟨x.val, by omega⟩
      + dist sq p k ⟨2 + y.val, by omega⟩ ⟨x.val, by omega⟩)
    + (dist sq p k ⟨y.val, by omega⟩ ⟨1 + x.val, by omega⟩ + dist sq p k ⟨1 + y.val, by omega⟩ ⟨1 + x.val, by omega⟩
      + dist sq p k ⟨2 + y.val, by omega⟩ ⟨1 + x.val, by omega⟩)
    + (dist sq p k ⟨y.val, by omega⟩ ⟨2 + x.val, by omega⟩ + dist sq p k ⟨1 + y.val, by omega⟩ ⟨2 + x.val, by omega⟩
      + dist sq p k ⟨2 + y.val, by omega⟩ ⟨2 + x.val, by omega⟩)

/-- One offset's weight. -/
def wexp (μ : EReal) (sq : Vec Ideal S1x224x224 .f32) (p : Vec Ideal S1x1x226x226 .f32) (k : Fin 8) (y x : Fin 224) : EReal :=
  Ideal.exp (box sq p k y x * Ideal.div (Ideal.ofBits .f32 0xBF000000#32) μ)

/-- The power of a ninth of a sum of weights. -/
def pw (s : EReal) : EReal := Ideal.exp (Ideal.log (Ideal.div s (Ideal.ofBits .f32 0x41100000#32)) * Ideal.ofBits .f32 0x42055555#32)

/-- The nine offsets' mean weight, raised to the power. -/
def powed (μ : EReal) (sq : Vec Ideal S1x224x224 .f32) (p : Fin 8 → Vec Ideal S1x1x226x226 .f32) (y x : Fin 224) : EReal :=
  pw (wexp μ sq (p 0) 0 y x + wexp μ sq (p 1) 1 y x + wexp μ sq (p 2) 2 y x
      + wexp μ sq (p 3) 3 y x * Ideal.ofBits .f32 0x40000000#32 + wexp μ sq (p 4) 4 y x + wexp μ sq (p 5) 5 y x
      + wexp μ sq (p 6) 6 y x + wexp μ sq (p 7) 7 y x)

/-- What an image is multiplied by. -/
def mask (μ : EReal) (sq : Vec Ideal S1x224x224 .f32) (p : Fin 8 → Vec Ideal S1x1x226x226 .f32) (y x : Fin 224) : EReal :=
  Ideal.exp (powed μ sq p y x * Ideal.div (Ideal.ofBits .f32 0xC7930000#32) (∑ a, ∑ b, powed μ sq p a b))

theorem pay6_at (g : Vec Ideal S4x1x1 .f32) (sq : Vec Ideal S1x224x224 .f32) (p : Vec Ideal S1x1x226x226 .f32) (y x : Fin 224) :
    k1_pay6 g sq p (ix2 y x) = wexp (mean g) sq p 0 y x := by
  pointwise [k1_pay6, k1_pay5, pay4_at, pay3_at]
  simp [wexp, box, dist, oy, ox]

theorem pay8_at (μ : EReal) (sq : Vec Ideal S1x224x224 .f32) (e) (p p' : Vec Ideal S1x1x226x226 .f32) (y x : Fin 224) :
    k1_pay8 (F := Ideal) μ (k1_pay4 sq) (k1_pay5 sq) e (k1_pay7 sq) p p' (ix2 y x)
      = e (ix2 y x) + wexp μ sq p 1 y x + wexp μ sq p' 2 y x := by
  pointwise [k1_pay8, k1_pay7, k1_pay5, pay4_at]
  simp [wexp, box, dist, oy, ox]

theorem pay9_at (μ : EReal) (sq : Vec Ideal S1x224x224 .f32) (e) (p : Vec Ideal S1x1x226x226 .f32) (y x : Fin 224) :
    k1_pay9 (F := Ideal) μ (k1_pay4 sq) (k1_pay5 sq) e p (ix2 y x)
      = e (ix2 y x) + wexp μ sq p 3 y x * Ideal.ofBits .f32 0x40000000#32 := by
  pointwise [k1_pay9, k1_pay5, pay4_at]
  simp [wexp, box, dist, oy, ox]

theorem pay10_at (μ : EReal) (sq : Vec Ideal S1x224x224 .f32) (p : Vec Ideal S1x1x226x226 .f32) (y x : Fin 224) :
    k1_pay10 (F := Ideal) μ (k1_pay4 sq) (k1_pay5 sq) p (ix2 y x) = wexp μ sq p 4 y x := by
  pointwise [k1_pay10, k1_pay5, pay4_at]
  simp [wexp, box, dist, oy, ox]

theorem pay12_at (μ : EReal) (sq : Vec Ideal S1x224x224 .f32) (e e') (p : Vec Ideal S1x1x226x226 .f32) (y x : Fin 224) :
    k1_pay12 (F := Ideal) μ (k1_pay4 sq) (k1_pay5 sq) e e' k1_pay11 p (ix2 y x)
      = e (ix2 y x) + e' (ix2 y x) + wexp μ sq p 5 y x := by
  pointwise [k1_pay12, k1_pay11, k1_pay5, pay4_at]
  simp [wexp, box, dist, oy, ox]

theorem pay13_at (μ : EReal) (sq : Vec Ideal S1x224x224 .f32) (p : Vec Ideal S1x1x226x226 .f32) (y x : Fin 224) :
    k1_pay13 (F := Ideal) μ (k1_pay4 sq) (k1_pay5 sq) p (ix2 y x) = wexp μ sq p 6 y x := by
  pointwise [k1_pay13, k1_pay5, pay4_at]
  simp [wexp, box, dist, oy, ox]

theorem pay14_at (μ : EReal) (sq : Vec Ideal S1x224x224 .f32) (e e') (p : Vec Ideal S1x1x226x226 .f32) (y x : Fin 224) :
    k1_pay14 (F := Ideal) μ (k1_pay4 sq) (k1_pay5 sq) e e' p (ix2 y x)
      = Ideal.exp (pw (e (ix2 y x) + e' (ix2 y x) + wexp μ sq p 7 y x) * Ideal.div (Ideal.ofBits .f32 0xC7930000#32)
        (∑ a, ∑ b, pw (e (ix2 a b) + e' (ix2 a b) + wexp μ sq p 7 a b))) := by
  pointwise [k1_pay14, k1_pay5, pay4_at]
  simp [pw, wexp, box, dist, oy, ox]

theorem pay1_eq (v : FVec Ideal S224x224 .f32) : k1_pay1 v = v := by
  funext j
  pointwise [k1_pay1]

/-- The mask as the second call computes it from its three blocks. -/
theorem mask_at (g : Vec Ideal S4x1x1 .f32) (sq : Vec Ideal S1x224x224 .f32) (p : Fin 8 → Vec Ideal S1x1x226x226 .f32) (j : S224x224.Idx) :
    k1_pay1 (k1_pay14 (k1_pay3 g) (k1_pay4 sq) (k1_pay5 sq)
        (k1_pay12 (k1_pay3 g) (k1_pay4 sq) (k1_pay5 sq)
          (k1_pay9 (k1_pay3 g) (k1_pay4 sq) (k1_pay5 sq)
            (k1_pay8 (k1_pay3 g) (k1_pay4 sq) (k1_pay5 sq) (k1_pay6 g sq (p 0)) (k1_pay7 sq) (p 1) (p 2)) (p 3))
          (k1_pay10 (k1_pay3 g) (k1_pay4 sq) (k1_pay5 sq) (p 4)) k1_pay11 (p 5))
        (k1_pay13 (k1_pay3 g) (k1_pay4 sq) (k1_pay5 sq) (p 6)) (p 7)) j
      = mask (mean g) sq p (j 0) (j 1) := by
  obtain ⟨y, x, rfl⟩ : ∃ y x, j = ix2 y x := ⟨j 0, j 1, by blk_ext⟩
  rw [pay1_eq, pay3_at, pay14_at]
  simp only [pay12_at, pay9_at, pay8_at, pay6_at, pay10_at, pay13_at]
  rfl
end Cert.KernelIdeal.Val
-- ==== Proof.Real.lean ====
/- The distances, their three by three sums and their mean over the real numbers. -/
module

public import proofs.«01_k».proof.Proof.Ref
public import proofs.«01_k».proof.Proof.PayM

@[expose] public section

noncomputable section

namespace Cert.KReal

open Cert.KernelIdeal.Val (pad2 wt pw)
open Cert.ReferenceIdeal.Val (ry rx)
open Idealize.ShloMosaic

/-- A finite sum of reals is real. -/
theorem coe_sum {ι : Type} (s : Finset ι) (f : ι → ℝ) : ((∑ i ∈ s, f i : ℝ) : EReal) = ∑ i ∈ s, (f i : EReal) :=
  map_sum (⟨⟨fun r : ℝ => (r : EReal), EReal.coe_zero⟩, EReal.coe_add⟩ : ℝ →+ EReal) f s

/-- A real image with four rows and columns of zeros on every side. -/
def padR (v : Fin 224 → Fin 224 → ℝ) (y x : ℕ) : ℝ :=
  if h : (4 ≤ y ∧ y < 228) ∧ (4 ≤ x ∧ x < 228) then v ⟨y - 4, by omega⟩ ⟨x - 4, by omega⟩ else 0

theorem pad2_coe (v : Fin 224 → Fin 224 → ℝ) (y x : ℕ) : pad2 (fun a b => (v a b : EReal)) y x = ((padR v y x : ℝ) : EReal) := by
  unfold pad2 padR
  split
  · rfl
  · simp

/-- The squared distance at offset `k`. -/
def dR (v : Fin 96 → Fin 224 → Fin 224 → ℝ) (k : Fin 9) (y x : ℕ) : ℝ :=
  ∑ r, (padR (v r) (3 + y) (3 + x) - padR (v r) (ry k + y) (rx k + x)) * (padR (v r) (3 + y) (3 + x) - padR (v r) (ry k + y) (rx k + x))

/-- The three by three sum of the distances. -/
def boxR (v : Fin 96 → Fin 224 → Fin 224 → ℝ) (k : Fin 9) (y x : ℕ) : ℝ :=
  dR v k y x + dR v k y (1 + x) + dR v k y (2 + x) + dR v k (1 + y) x + dR v k (1 + y) (1 + x) + dR v k (1 + y) (2 + x)
    + dR v k (2 + y) x + dR v k (2 + y) (1 + x) + dR v k (2 + y) (2 + x)

/-- The sum of all the three by three sums. -/
def sumR (v : Fin 4 → Fin 96 → Fin 224 → Fin 224 → ℝ) : ℝ :=
  ∑ b, ∑ k : Fin 9, ∑ y : Fin 224, ∑ x : Fin 224, boxR (v b) k y x

theorem dR_nonneg (v : Fin 96 → Fin 224 → Fin 224 → ℝ) (k : Fin 9) (y x : ℕ) : 0 ≤ dR v k y x :=
  Finset.sum_nonneg fun _ _ => mul_self_nonneg _

theorem boxR_nonneg (v : Fin 96 → Fin 224 → Fin 224 → ℝ) (k : Fin 9) (y x : ℕ) : 0 ≤ boxR v k y x := by
  unfold boxR
  have := dR_nonneg v k
  linarith [this y x, this y (1 + x), this y (2 + x), this (1 + y) x, this (1 + y) (1 + x), this (1 + y) (2 + x), this (2 + y) x,
    this (2 + y) (1 + x), this (2 + y) (2 + x)]

/-- A padded image equal to itself moved along the diagonal is zero. -/
theorem padR_zero (v : Fin 224 → Fin 224 → ℝ) (h : ∀ y x, y < 224 → x < 224 → padR v (3 + y) (3 + x) = padR v (4 + y) (4 + x)) :
    ∀ n, n < 225 → ∀ x, x < 225 → padR v (3 + n) (3 + x) = 0
  | 0, _, x, _ => by unfold padR; rw [dif_neg (by omega)]
  | n + 1, hn, 0, _ => by unfold padR; rw [dif_neg (by omega)]
  | n + 1, hn, x + 1, hx => by
    have := h n x (by omega) (by omega)
    rw [show 3 + (n + 1) = 4 + n by omega, show 3 + (x + 1) = 4 + x by omega, ← this]
    exact padR_zero v h n (by omega) x (by omega)

/-- The sum is positive unless the image is zero. -/
theorem sumR_pos (v : Fin 4 → Fin 96 → Fin 224 → Fin 224 → ℝ) (hv : ∃ b r y x, v b r y x ≠ 0) : 0 < sumR v := by
  have n3 : ∀ b k y, 0 ≤ ∑ x : Fin 224, boxR (v b) k y x := fun b k y => Finset.sum_nonneg fun _ _ => boxR_nonneg _ _ _ _
  have n2 : ∀ b k, 0 ≤ ∑ y : Fin 224, ∑ x : Fin 224, boxR (v b) k y x := fun b k => Finset.sum_nonneg fun _ _ => n3 _ _ _
  have n1 : ∀ b, 0 ≤ ∑ k : Fin 9, ∑ y : Fin 224, ∑ x : Fin 224, boxR (v b) k y x := fun b => Finset.sum_nonneg fun _ _ => n2 _ _
  refine lt_of_le_of_ne (Finset.sum_nonneg fun _ _ => n1 _) fun h => ?_
  obtain ⟨b, r, y, x, hne⟩ := hv
  refine hne ?_
  have e1 := (Finset.sum_eq_zero_iff_of_nonneg fun i _ => n1 i).1 h.symm b (Finset.mem_univ _)
  have e2 := (Finset.sum_eq_zero_iff_of_nonneg fun i _ => n2 b i).1 e1 1 (Finset.mem_univ _)
  have e3 : ∀ y x : ℕ, y < 224 → x < 224 → boxR (v b) 1 y x = 0 := fun y x hy hx =>
    (Finset.sum_eq_zero_iff_of_nonneg fun i _ => boxR_nonneg _ _ _ _).1
      ((Finset.sum_eq_zero_iff_of_nonneg fun (i : Fin 224) _ => n3 b 1 i).1 e2 ⟨y, hy⟩ (Finset.mem_univ _)) ⟨x, hx⟩ (Finset.mem_univ _)
  have e4 : ∀ y x : ℕ, y < 224 → x < 224 → dR (v b) 1 y x = 0 := fun y x hy hx => by
    have := e3 y x hy hx
    unfold boxR at this
    have p := dR_nonneg (v b) 1
    linarith [p y x, p y (1 + x), p y (2 + x), p (1 + y) x, p (1 + y) (1 + x), p (1 + y) (2 + x), p (2 + y) x,
      p (2 + y) (1 + x), p (2 + y) (2 + x)]
  have e5 := padR_zero (v b r) (fun y x hy hx => by
    have := (Finset.sum_eq_zero_iff_of_nonneg fun i _ => mul_self_nonneg _).1 (e4 y x hy hx) r (Finset.mem_univ _)
    exact sub_eq_zero.1 (mul_self_eq_zero.1 this)) (y.val + 1) (by omega) (x.val + 1) (by omega)
  rw [← e5]
  unfold padR
  rw [dif_pos (by omega)]
  congr 1 <;> ext <;> dsimp only <;> omega

/-- Each row counted as often as a window of three holds it. -/
theorem sum_wt (g : ℕ → ℝ) : ∑ y : Fin 226, g y * (wt y : ℝ) = ∑ y : Fin 224, (g y + g (1 + y) + g (2 + y)) := by
  have a : ∑ y ∈ Finset.range 226, (if y < 224 then g y else 0) = ∑ y ∈ Finset.range 224, g y := by
    rw [Finset.sum_range_succ, Finset.sum_range_succ, if_neg (by decide), if_neg (by decide), add_zero, add_zero]
    exact Finset.sum_congr rfl fun y hy => if_pos (Finset.mem_range.1 hy)
  have b : ∑ y ∈ Finset.range 226, (if 1 ≤ y ∧ y < 225 then g y else 0) = ∑ y ∈ Finset.range 224, g (1 + y) := by
    rw [Finset.sum_range_succ, Finset.sum_range_succ', if_neg (by decide), if_neg (by decide), add_zero, add_zero]
    refine Finset.sum_congr rfl fun y hy => ?_
    have := Finset.mem_range.1 hy
    rw [if_pos (by omega), Nat.add_comm]
  have c : ∑ y ∈ Finset.range 226, (if 2 ≤ y then g y else 0) = ∑ y ∈ Finset.range 224, g (2 + y) := by
    rw [Finset.sum_range_succ', Finset.sum_range_succ', if_neg (by decide), if_neg (by decide), add_zero, add_zero]
    refine Finset.sum_congr rfl fun y _ => ?_
    rw [if_pos (by omega), show y + 1 + 1 = 2 + y by omega]
  rw [Finset.sum_add_distrib, Finset.sum_add_distrib, Fin.sum_univ_eq_sum_range (fun y => g y * (wt y : ℝ)), Fin.sum_univ_eq_sum_range (fun y => g y),
    Fin.sum_univ_eq_sum_range (fun y => g (1 + y)), Fin.sum_univ_eq_sum_range (fun y => g (2 + y)), ← a, ← b, ← c, ← Finset.sum_add_distrib,
    ← Finset.sum_add_distrib]
  refine Finset.sum_congr rfl fun y hy => ?_
  have hy := Finset.mem_range.1 hy
  have w : wt y = (if y < 224 then 1 else 0) + (if 1 ≤ y ∧ y < 225 then 1 else 0) + (if 2 ≤ y then 1 else 0) := by
    unfold wt
    split_ifs <;> omega
  rw [w]
  split_ifs <;> push_cast <;> ring

/-- The weighted sum of all the distances is the sum of all the three by three sums. -/
theorem sum_wt2 (v : Fin 96 → Fin 224 → Fin 224 → ℝ) (k : Fin 9) :
    ∑ y : Fin 226, ∑ x : Fin 226, dR v k y x * ((wt y : ℝ) * (wt x : ℝ)) = ∑ y : Fin 224, ∑ x : Fin 224, boxR v k y x := by
  have h : ∀ y : ℕ, ∑ x : Fin 226, dR v k y x * ((wt y : ℝ) * (wt x : ℝ))
      = (∑ x : Fin 224, (dR v k y x + dR v k y (1 + x) + dR v k y (2 + x))) * (wt y : ℝ) := fun y => by
    rw [← sum_wt, Finset.sum_mul]
    exact Finset.sum_congr rfl fun _ _ => by ring
  rw [Finset.sum_congr rfl fun (y : Fin 226) _ => h y, sum_wt (fun y => ∑ x : Fin 224, (dR v k y x + dR v k y (1 + x) + dR v k y (2 + x)))]
  refine Finset.sum_congr rfl fun y _ => ?_
  rw [← Finset.sum_add_distrib, ← Finset.sum_add_distrib]
  exact Finset.sum_congr rfl fun x _ => by unfold boxR; ring

/-- The weights of the rows and columns, all nine offsets at once. -/
theorem sum_wt9 (v : Fin 96 → Fin 224 → Fin 224 → ℝ) :
    ∑ y : Fin 226, ∑ x : Fin 226, (∑ k : Fin 9, dR v k y x) * ((wt y : ℝ) * (wt x : ℝ)) = ∑ k : Fin 9, ∑ y : Fin 224, ∑ x : Fin 224, boxR v k y x := by
  simp only [← sum_wt2, Finset.sum_mul]
  rw [Finset.sum_comm (s := (Finset.univ : Finset (Fin 9)))]
  refine Finset.sum_congr rfl fun y _ => ?_
  rw [Finset.sum_comm]

theorem lit_two : Ideal.ofBits .f32 0x40000000#32 = ((2 : ℝ) : EReal) := by
  simp [Ideal.ofBits, Ideal.ieee, -EReal.coe_mul]; norm_num
theorem lit_half : Ideal.ofBits .f32 0xBF000000#32 = ((-1 / 2 : ℝ) : EReal) := by
  simp [Ideal.ofBits, Ideal.ieee, -EReal.coe_mul, -EReal.coe_neg]; norm_num
theorem lit_nine : Ideal.ofBits .f32 0x41100000#32 = ((9 : ℝ) : EReal) := by
  simp [Ideal.ofBits, Ideal.ieee, -EReal.coe_mul]; norm_num
theorem lit_pow : ∃ c : ℝ, Ideal.ofBits .f32 0x42055555#32 = (c : EReal) := by
  simp [Ideal.ofBits, Ideal.ieee, -EReal.coe_mul]
theorem lit_scale : Ideal.ofBits .f32 0xC7930000#32 = ((-75264 : ℝ) : EReal) := by
  simp [Ideal.ofBits, Ideal.ieee, -EReal.coe_mul, -EReal.coe_neg]; norm_num
theorem lit_count : Ideal.ofBits .f32 0x49DC8000#32 = ((1806336 : ℝ) : EReal) := by
  simp [Ideal.ofBits, Ideal.ieee, -EReal.coe_mul]; norm_num
theorem lit_slope : Ideal.ofBits .f32 0xBFC00000#32 = ((-3 / 2 : ℝ) : EReal) := by
  simp [Ideal.ofBits, Ideal.ieee, -EReal.coe_mul, -EReal.coe_neg]; norm_num
theorem lit_side : Ideal.ofBits .f32 0x43600000#32 = ((224 : ℝ) : EReal) := by
  simp [Ideal.ofBits, Ideal.ieee, -EReal.coe_mul]; norm_num

/-- The quotient of two reals. -/
theorem div_real (a : ℝ) {b : ℝ} (hb : b ≠ 0) : Ideal.div (a : EReal) (b : EReal) = ((a / b : ℝ) : EReal) := by
  rw [Ideal.div_coe hb, ← EReal.coe_mul]
  congr 1
  ring

/-- A positive real's power is a positive real, and both programs' ways of taking it agree. -/
theorem pw_real {s : ℝ} (hs : 0 < s) : ∃ p : ℝ, 0 < p ∧ pw (s : EReal) = (p : EReal)
    ∧ Ideal.pow (Ideal.div (s : EReal) (Ideal.ofBits .f32 0x41100000#32)) (Ideal.ofBits .f32 0x42055555#32) = (p : EReal) := by
  obtain ⟨c, hc⟩ := lit_pow
  have h9 : 0 < s / 9 := by positivity
  refine ⟨Real.exp (Real.log (s / 9) * c), Real.exp_pos _, ?_, ?_⟩
  · unfold pw
    rw [hc, lit_nine, div_real s (by norm_num), Ideal.log_coe, if_neg (not_le.2 h9), ← EReal.coe_mul, Ideal.exp_coe]
  · rw [hc, lit_nine, div_real s (by norm_num), Ideal.pow_coe_coe, ← Real.rpow_def_of_pos h9]
    rfl

/-- A weight, both programs' ways. -/
theorem wexp_real (d : ℝ) {μ : ℝ} (hμ : 0 < μ) :
    Ideal.exp ((d : EReal) * Ideal.div (Ideal.ofBits .f32 0xBF000000#32) (μ : EReal)) = ((Real.exp (-d / μ / 2) : ℝ) : EReal)
      ∧ Ideal.exp (Ideal.div (Ideal.div (Ideal.div (-(d : EReal)) (μ : EReal)) (Ideal.ofBits .f32 0x40000000#32)) 1)
        = ((Real.exp (-d / μ / 2) : ℝ) : EReal) := by
  have one : (1 : EReal) = ((1 : ℝ) : EReal) := rfl
  constructor
  · rw [lit_half, div_real _ hμ.ne', ← EReal.coe_mul, Ideal.exp_coe]
    congr 2
    field_simp
  · rw [lit_two, one, ← EReal.coe_neg, div_real _ hμ.ne', div_real _ two_ne_zero, div_real _ one_ne_zero, Ideal.exp_coe, div_one]

/-- The mask, both programs' ways. -/
theorem mask_real (p : ℝ) {n : ℝ} (hn : 0 < n) :
    Ideal.exp ((p : EReal) * Ideal.div (Ideal.ofBits .f32 0xC7930000#32) (n : EReal))
      = Ideal.exp (Ideal.ofBits .f32 0xBFC00000#32 * Ideal.div (p : EReal) (n : EReal) * Ideal.ofBits .f32 0x43600000#32 * Ideal.ofBits .f32 0x43600000#32) := by
  rw [lit_scale, lit_slope, lit_side, div_real _ hn.ne', div_real _ hn.ne', ← EReal.coe_mul, ← EReal.coe_mul, ← EReal.coe_mul, ← EReal.coe_mul]
  congr 2
  field_simp
  ring

end Cert.KReal
-- ==== Proof.R0.Runs.lean ====
/- What the cases of the first call share: the blocks its input windows hold, the branch conditions of the body in closed form,
   where its windows are idle, and the memrefs it works on. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the call starts with -/

/-- Core `c`'s buffers when the call starts. -/
abbrev V (c : Dev nD) (b : Ref sig .tc) : Buf (Elt F) ((c : Thread nD τ).loc b) := m ((c : Thread nD τ).loc b)

/-! ## The windows' blocks -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's branch 0. -/
abbrev cond0_0 (i : grid0.Coords) : Prop := k0_cond1 i = 1#1
/-- It holds at the first chunk of an image. -/
theorem hcond0_0 : ∀ t : Fin cfg0.N, cond0_0 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-- The condition of the body's branch 1. -/
abbrev cond0_1 (i : grid0.Coords) : Prop := k0_cond2 i = 1#1
/-- It holds at every later chunk. -/
theorem hcond0_1 : ∀ t : Fin cfg0.N, cond0_1 (grid0.coords t) ↔ 1 ≤ t.val % 4 :=
  (by decide +kernel : ∀ t : Fin grid0.N, cond0_1 (grid0.coords t) ↔ 1 ≤ t.val % 4)

/-- The condition of the body's branch 2. -/
abbrev cond0_2 (i : grid0.Coords) : Prop := k0_cond3 i = 1#1
/-- It holds at the last chunk. -/
theorem hcond0_2 : ∀ t : Fin cfg0.N, cond0_2 (grid0.coords t) ↔ t.val % 4 = 3 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_2, k0_cond3, e0, e1]
    word_cmp
   : ∀ t : Fin grid0.N, cond0_2 (grid0.coords t) ↔ t.val % 4 = 3)

/-! ## Where the windows are idle -/

/-- The input window is live at every point. -/
theorem liveAt0_0 : ∀ t : Fin cfg0.N, cfg0.idle 0 (grid0.coords t) = false := fun _ => rfl
/-- The positions at which output 1's buffer holds nothing the body stored, one bit each. -/
def freshTab0_1 : ℕ → Bool
  | 0 => true
  | n + 1 => (0x8888 : ℕ).testBit n
theorem freshTab0_1_step : ∀ t : Fin cfg0.N,
    freshTab0_1 (t.val + 1) = ((cfg0.win 1).flush t || (cfg0.idle 1 (cfg0.grid.coords t) && freshTab0_1 t.val)) := by decide +kernel
theorem fresh0_1_eq (t : Fin cfg0.N) : cfg0.fresh 1 t.val = freshTab0_1 t.val :=
  Pipeline.Cfg.fresh_tab cfg0 1 freshTab0_1 rfl freshTab0_1_step t.val (Nat.le_of_lt t.isLt)
/-- Case A stores into output 1. -/
theorem liveAt0_1_A : ∀ t : Fin cfg0.N, cond0_0 (grid0.coords t) → ¬cond0_1 (grid0.coords t) → ¬cond0_2 (grid0.coords t) → cfg0.idle 1 (grid0.coords t) = false := by decide +kernel
/-- Case B stores into output 1. -/
theorem liveAt0_1_B : ∀ t : Fin cfg0.N, ¬cond0_0 (grid0.coords t) → cond0_1 (grid0.coords t) → ¬cond0_2 (grid0.coords t) → cfg0.idle 1 (grid0.coords t) = false := by decide +kernel
/-- At a point of case B output 1's buffer holds what the body stored before. -/
theorem notFresh0_1_B : ∀ t : Fin cfg0.N, ¬cond0_0 (grid0.coords t) → cond0_1 (grid0.coords t) → ¬cond0_2 (grid0.coords t) → cfg0.fresh 1 t.val = false := by
  intro t; rw [fresh0_1_eq t]; revert t; decide +kernel
/-- Case C stores into output 1. -/
theorem liveAt0_1_C : ∀ t : Fin cfg0.N, ¬cond0_0 (grid0.coords t) → cond0_1 (grid0.coords t) → cond0_2 (grid0.coords t) → cfg0.idle 1 (grid0.coords t) = false := by decide +kernel
/-- At a point of case C output 1's buffer holds what the body stored before. -/
theorem notFresh0_1_C : ∀ t : Fin cfg0.N, ¬cond0_0 (grid0.coords t) → cond0_1 (grid0.coords t) → cond0_2 (grid0.coords t) → cfg0.fresh 1 t.val = false := by
  intro t; rw [fresh0_1_eq t]; revert t; decide +kernel
/-- The positions at which output 2's buffer holds nothing the body stored, one bit each. -/
def freshTab0_2 : ℕ → Bool
  | 0 => true
  | n + 1 => (0x8888 : ℕ).testBit n
theorem freshTab0_2_step : ∀ t : Fin cfg0.N,
    freshTab0_2 (t.val + 1) = ((cfg0.win 2).flush t || (cfg0.idle 2 (cfg0.grid.coords t) && freshTab0_2 t.val)) := by decide +kernel
theorem fresh0_2_eq (t : Fin cfg0.N) : cfg0.fresh 2 t.val = freshTab0_2 t.val :=
  Pipeline.Cfg.fresh_tab cfg0 2 freshTab0_2 rfl freshTab0_2_step t.val (Nat.le_of_lt t.isLt)
/-- Case A stores into output 2. -/
theorem liveAt0_2_A : ∀ t : Fin cfg0.N, cond0_0 (grid0.coords t) → ¬cond0_1 (grid0.coords t) → ¬cond0_2 (grid0.coords t) → cfg0.idle 2 (grid0.coords t) = false := by decide +kernel
/-- Case B stores into output 2. -/
theorem liveAt0_2_B : ∀ t : Fin cfg0.N, ¬cond0_0 (grid0.coords t) → cond0_1 (grid0.coords t) → ¬cond0_2 (grid0.coords t) → cfg0.idle 2 (grid0.coords t) = false := by decide +kernel
/-- At a point of case B output 2's buffer holds what the body stored before. -/
theorem notFresh0_2_B : ∀ t : Fin cfg0.N, ¬cond0_0 (grid0.coords t) → cond0_1 (grid0.coords t) → ¬cond0_2 (grid0.coords t) → cfg0.fresh 2 t.val = false := by
  intro t; rw [fresh0_2_eq t]; revert t; decide +kernel
/-- Case C stores into output 2. -/
theorem liveAt0_2_C : ∀ t : Fin cfg0.N, ¬cond0_0 (grid0.coords t) → cond0_1 (grid0.coords t) → cond0_2 (grid0.coords t) → cfg0.idle 2 (grid0.coords t) = false := by decide +kernel
/-- At a point of case C output 2's buffer holds what the body stored before. -/
theorem notFresh0_2_C : ∀ t : Fin cfg0.N, ¬cond0_0 (grid0.coords t) → cond0_1 (grid0.coords t) → cond0_2 (grid0.coords t) → cfg0.fresh 2 t.val = false := by
  intro t; rw [fresh0_2_eq t]; revert t; decide +kernel
/-- Case A stores nothing into output 3. -/
theorem idleAt0_3_A : ∀ t : Fin cfg0.N, cond0_0 (grid0.coords t) → ¬cond0_1 (grid0.coords t) → ¬cond0_2 (grid0.coords t) → cfg0.idle 3 (grid0.coords t) = true := by decide +kernel
/-- Case A does not write output 3's block back. -/
theorem noFlush0_3_A : ∀ t : Fin cfg0.N, cond0_0 (grid0.coords t) → ¬cond0_1 (grid0.coords t) → ¬cond0_2 (grid0.coords t) → (cfg0.win 3).flush t = false := by decide +kernel
/-- Case B stores nothing into output 3. -/
theorem idleAt0_3_B : ∀ t : Fin cfg0.N, ¬cond0_0 (grid0.coords t) → cond0_1 (grid0.coords t) → ¬cond0_2 (grid0.coords t) → cfg0.idle 3 (grid0.coords t) = true := by decide +kernel
/-- Case B does not write output 3's block back. -/
theorem noFlush0_3_B : ∀ t : Fin cfg0.N, ¬cond0_0 (grid0.coords t) → cond0_1 (grid0.coords t) → ¬cond0_2 (grid0.coords t) → (cfg0.win 3).flush t = false := by decide +kernel
/-- Case C stores into output 3. -/
theorem liveAt0_3_C : ∀ t : Fin cfg0.N, ¬cond0_0 (grid0.coords t) → cond0_1 (grid0.coords t) → cond0_2 (grid0.coords t) → cfg0.idle 3 (grid0.coords t) = false := by decide +kernel

/-! ## The kernel body on any staging memrefs -/

/-- One buffer of output 1, through which its contents are stated. -/
abbrev VO0_1 : View sig .tc .vmem S1x8x226x226 .f32 := (Memref.whole cc0_stg1_0 : Memref sig .tc .vmem S1x8x226x226 .f32).view
/-- One buffer of output 2, through which its contents are stated. -/
abbrev VO0_2 : View sig .tc .vmem S1x224x224 .f32 := (Memref.whole cc0_stg2_0 : Memref sig .tc .vmem S1x224x224 .f32).view
/-- One buffer of output 3, through which its contents are stated. -/
abbrev VO0_3 : View sig .tc .vmem S1x1x1 .f32 := (Memref.whole cc0_stg3_0 : Memref sig .tc .vmem S1x1x1 .f32).view
/-- Each window's buffer at point `t`, whole. -/
abbrev ms0_0 (t : Fin cfg0.N) : Memref sig .tc .vmem S1x24x224x224 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x226x226 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x224x224 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1 .f32 := win0_3.stage (cfg0.slots t 3)
abbrev hs0_3 (t : Fin cfg0.N) : (ms0_3 t).IsWhole := hstage0_3 ((cfg0.slots t 3).cast nbuf0_3)
/-- The kernel's own scratch buffers, whole. -/
abbrev scM0_0 : Memref sig .tc .vmem S24x232x226 .f32 := Memref.whole cc0_scratch0
abbrev scM0_1 : Memref sig .tc .vmem S24x232x226 .f32 := Memref.whole cc0_scratch1
abbrev scM0_2 : Memref sig .tc .vmem S24x232x226 .f32 := Memref.whole cc0_scratch2
abbrev scM0_3 : Memref sig .tc .vmem S24x232x226 .f32 := Memref.whole cc0_scratch3
abbrev scM0_4 : Memref sig .tc .vmem S24x226x226 .f32 := Memref.whole cc0_scratch4

/-- What the call leaves alone: the other call's buffers and the random-number register. -/
def Gs (c : Dev nD) : sProp 𝕄 :=
  iprop(Pipeline.scopedRestBut spec0 c [cc0_scratch0, cc0_scratch1, cc0_scratch2, cc0_scratch3, cc0_scratch4] ∗ (∃ r, prngReg c r))

/-- The call's invariant: its scratch buffers at some contents beside what it leaves alone. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ Gs c) := by
  unfold Pipeline.ΦA Gs
  rw [Pipeline.scopedRest_split_of_list spec0 c [cc0_scratch0, cc0_scratch1, cc0_scratch2, cc0_scratch3, cc0_scratch4] (by decide) (by decide)]
  refine (Entails.antisymm BI.sep_assoc BI.sep_assoc').trans ?_
  simp only [scM0_0, scM0_1, scM0_2, scM0_3, scM0_4, owns_whole]
  rfl

end Cert.KernelIdeal.R0

end
-- ==== Proof.R0.RunA.lean ====
/- The first call, case A: one execution of the body. -/
module

public import proofs.«01_k».proof.Proof.R0.Runs

@[expose] public section

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the stores of case A leave in each buffer, with the proof that the body runs and leaves it. -/
noncomputable def kernelRun0_A (c : Dev nD) (i : grid0.Coords) (arg2 : Memref sig .tc .vmem S1x24x224x224 .f32) (harg2 : arg2.IsWhole) (arg3 : Memref sig .tc .vmem S1x8x226x226 .f32) (harg3 : arg3.IsWhole) (arg4 : Memref sig .tc .vmem S1x224x224 .f32) (harg4 : arg4.IsWhole) (arg5 : Memref sig .tc .vmem S1x1x1 .f32) (harg5 : arg5.IsWhole) (arg6 : Memref sig .tc .vmem S24x232x226 .f32) (harg6 : arg6.IsWhole) (arg7 : Memref sig .tc .vmem S24x232x226 .f32) (harg7 : arg7.IsWhole) (arg8 : Memref sig .tc .vmem S24x232x226 .f32) (harg8 : arg8.IsWhole) (arg9 : Memref sig .tc .vmem S24x232x226 .f32) (harg9 : arg9.IsWhole) (arg10 : Memref sig .tc .vmem S24x226x226 .f32) (harg10 : arg10.IsWhole) (hc0 : cond0_0 i) (hc1 : ¬cond0_1 i) (hc2 : ¬cond0_2 i)
    (x0 : Vec F S1x24x224x224 .f32) :
    Σ' (L1 : List (View.Piece (Elt F) S1x8x226x226 .f32)), Σ' (L2 : List (View.Piece (Elt F) S1x224x224 .f32)), Σ' (L3 : List (View.Piece (Elt F) S1x1x1 .f32)), Σ' (LT0 : List (View.Piece (Elt F) S24x232x226 .f32)), Σ' (LT1 : List (View.Piece (Elt F) S24x232x226 .f32)), Σ' (LT2 : List (View.Piece (Elt F) S24x232x226 .f32)), Σ' (LT3 : List (View.Piece (Elt F) S24x232x226 .f32)), { LT4 : List (View.Piece (Elt F) S24x226x226 .f32) //
      ∀ (xi3 : Vec F S1x1x1 .f32) (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LT0) ∗ (∃ f, arg7.view.loc (c : Thread nD τ) ↦[arg7.view.set]{fullShare} arg7.view.writes (Elt F) f LT1) ∗ (∃ f, arg8.view.loc (c : Thread nD τ) ↦[arg8.view.set]{fullShare} arg8.view.writes (Elt F) f LT2) ∗ (∃ f, arg9.view.loc (c : Thread nD τ) ↦[arg9.view.set]{fullShare} arg9.view.writes (Elt F) f LT3) ∗ (∃ f, arg10.view.loc (c : Thread nD τ) ↦[arg10.view.set]{fullShare} arg10.view.writes (Elt F) f LT4)) -∗ K ⟨⟩))
          ⊢ wp frame (wpE (defs₀ (F := F)) Variants.none c none) E (cc0__pass1_body i arg2 harg2 arg3 harg3 arg4 harg4 arg5 harg5 arg6 harg6 arg7 harg7 arg8 harg8 arg9 harg9 arg10 harg10) K } := by
  refine ⟨?_, ?_, [], ?_, ?_, ?_, ?_, ?_, fun xi3 E K => ?run⟩
  case run =>
    simp only [cc0__pass1_body_eq_skeleton]; unfold cc0__pass1_body_skel
    simp only [k0_part7_eq_skeleton, k0_part8_eq_skeleton, k0_part1_eq_skeleton]
    unfold owns
    iintro ⟨⟨%f0, %hf0, H0⟩, ⟨%d1, %f1, -, H1⟩, ⟨%d2, %f2, -, H2⟩, ⟨%f3, %hf3, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg5.eq_unread hf3
    sl_exec (disch := first | sl_exact hc0 | sl_exact hc1 | sl_exact hc2)
    sl_step
    iapply Hk
    isplitl [H0]
    · iexists _; isplitr; · ipureintro; exact harg2.read_unread _
      iexact H0
    isplitl [H1]; · iexists _; iexact H1
    isplitl [H2]; · iexists _; iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    isplitl [HS3]; · iexists _; iexact HS3
    iexists _; iexact HS4

end Cert.KernelIdeal.R0

end
-- ==== Proof.R0.RunB.lean ====
/- The first call, case B: one execution of the body. -/
module

public import proofs.«01_k».proof.Proof.R0.RunA

@[expose] public section

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the stores of case B leave in each buffer, with the proof that the body runs and leaves it. -/
noncomputable def kernelRun0_B (c : Dev nD) (i : grid0.Coords) (arg2 : Memref sig .tc .vmem S1x24x224x224 .f32) (harg2 : arg2.IsWhole) (arg3 : Memref sig .tc .vmem S1x8x226x226 .f32) (harg3 : arg3.IsWhole) (arg4 : Memref sig .tc .vmem S1x224x224 .f32) (harg4 : arg4.IsWhole) (arg5 : Memref sig .tc .vmem S1x1x1 .f32) (harg5 : arg5.IsWhole) (arg6 : Memref sig .tc .vmem S24x232x226 .f32) (harg6 : arg6.IsWhole) (arg7 : Memref sig .tc .vmem S24x232x226 .f32) (harg7 : arg7.IsWhole) (arg8 : Memref sig .tc .vmem S24x232x226 .f32) (harg8 : arg8.IsWhole) (arg9 : Memref sig .tc .vmem S24x232x226 .f32) (harg9 : arg9.IsWhole) (arg10 : Memref sig .tc .vmem S24x226x226 .f32) (harg10 : arg10.IsWhole) (hc0 : ¬cond0_0 i) (hc1 : cond0_1 i) (hc2 : ¬cond0_2 i)
    (x0 : Vec F S1x24x224x224 .f32) (xo1 : Vec F S1x8x226x226 .f32) (xo2 : Vec F S1x224x224 .f32) :
    Σ' (L1 : List (View.Piece (Elt F) S1x8x226x226 .f32)), Σ' (L2 : List (View.Piece (Elt F) S1x224x224 .f32)), Σ' (L3 : List (View.Piece (Elt F) S1x1x1 .f32)), Σ' (LT0 : List (View.Piece (Elt F) S24x232x226 .f32)), Σ' (LT1 : List (View.Piece (Elt F) S24x232x226 .f32)), Σ' (LT2 : List (View.Piece (Elt F) S24x232x226 .f32)), Σ' (LT3 : List (View.Piece (Elt F) S24x232x226 .f32)), { LT4 : List (View.Piece (Elt F) S24x226x226 .f32) //
      ∀ (xi3 : Vec F S1x1x1 .f32) (E : Set ℕ) (K : PUnit → sProp 𝕄),
        iprop(owns (c : Thread nD τ) arg2 fullShare x0 ∗ owns (c : Thread nD τ) arg3 fullShare xo1 ∗ owns (c : Thread nD τ) arg4 fullShare xo2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LT0) ∗ (∃ f, arg7.view.loc (c : Thread nD τ) ↦[arg7.view.set]{fullShare} arg7.view.writes (Elt F) f LT1) ∗ (∃ f, arg8.view.loc (c : Thread nD τ) ↦[arg8.view.set]{fullShare} arg8.view.writes (Elt F) f LT2) ∗ (∃ f, arg9.view.loc (c : Thread nD τ) ↦[arg9.view.set]{fullShare} arg9.view.writes (Elt F) f LT3) ∗ (∃ f, arg10.view.loc (c : Thread nD τ) ↦[arg10.view.set]{fullShare} arg10.view.writes (Elt F) f LT4)) -∗ K ⟨⟩))
          ⊢ wp frame (wpE (defs₀ (F := F)) Variants.none c none) E (cc0__pass1_body i arg2 harg2 arg3 harg3 arg4 harg4 arg5 harg5 arg6 harg6 arg7 harg7 arg8 harg8 arg9 harg9 arg10 harg10) K } := by
  refine ⟨?_, ?_, [], ?_, ?_, ?_, ?_, ?_, fun xi3 E K => ?run⟩
  case run =>
    simp only [cc0__pass1_body_eq_skeleton]; unfold cc0__pass1_body_skel
    simp only [k0_part7_eq_skeleton, k0_part8_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3
    sl_exec (disch := first | sl_exact hc0 | sl_exact hc1 | sl_exact hc2)
    sl_step
    iapply Hk
    isplitl [H0]
    · iexists _; isplitr; · ipureintro; exact harg2.read_unread _
      iexact H0
    isplitl [H1]; · iexists _; iexact H1
    isplitl [H2]; · iexists _; iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    isplitl [HS3]; · iexists _; iexact HS3
    iexists _; iexact HS4

end Cert.KernelIdeal.R0

end
-- ==== Proof.R0.RunC.lean ====
/- The first call, case C: one execution of the body. -/
module

public import proofs.«01_k».proof.Proof.R0.RunB

@[expose] public section

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the stores of case C leave in each buffer, with the proof that the body runs and leaves it. -/
noncomputable def kernelRun0_C (c : Dev nD) (i : grid0.Coords) (arg2 : Memref sig .tc .vmem S1x24x224x224 .f32) (harg2 : arg2.IsWhole) (arg3 : Memref sig .tc .vmem S1x8x226x226 .f32) (harg3 : arg3.IsWhole) (arg4 : Memref sig .tc .vmem S1x224x224 .f32) (harg4 : arg4.IsWhole) (arg5 : Memref sig .tc .vmem S1x1x1 .f32) (harg5 : arg5.IsWhole) (arg6 : Memref sig .tc .vmem S24x232x226 .f32) (harg6 : arg6.IsWhole) (arg7 : Memref sig .tc .vmem S24x232x226 .f32) (harg7 : arg7.IsWhole) (arg8 : Memref sig .tc .vmem S24x232x226 .f32) (harg8 : arg8.IsWhole) (arg9 : Memref sig .tc .vmem S24x232x226 .f32) (harg9 : arg9.IsWhole) (arg10 : Memref sig .tc .vmem S24x226x226 .f32) (harg10 : arg10.IsWhole) (hc0 : ¬cond0_0 i) (hc1 : cond0_1 i) (hc2 : cond0_2 i)
    (x0 : Vec F S1x24x224x224 .f32) (xo1 : Vec F S1x8x226x226 .f32) (xo2 : Vec F S1x224x224 .f32) :
    Σ' (L1 : List (View.Piece (Elt F) S1x8x226x226 .f32)), Σ' (L2 : List (View.Piece (Elt F) S1x224x224 .f32)), Σ' (L3 : List (View.Piece (Elt F) S1x1x1 .f32)), Σ' (LT0 : List (View.Piece (Elt F) S24x232x226 .f32)), Σ' (LT1 : List (View.Piece (Elt F) S24x232x226 .f32)), Σ' (LT2 : List (View.Piece (Elt F) S24x232x226 .f32)), Σ' (LT3 : List (View.Piece (Elt F) S24x232x226 .f32)), { LT4 : List (View.Piece (Elt F) S24x226x226 .f32) //
      ∀ (E : Set ℕ) (K : PUnit → sProp 𝕄),
        iprop(owns (c : Thread nD τ) arg2 fullShare x0 ∗ owns (c : Thread nD τ) arg3 fullShare xo1 ∗ owns (c : Thread nD τ) arg4 fullShare xo2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LT0) ∗ (∃ f, arg7.view.loc (c : Thread nD τ) ↦[arg7.view.set]{fullShare} arg7.view.writes (Elt F) f LT1) ∗ (∃ f, arg8.view.loc (c : Thread nD τ) ↦[arg8.view.set]{fullShare} arg8.view.writes (Elt F) f LT2) ∗ (∃ f, arg9.view.loc (c : Thread nD τ) ↦[arg9.view.set]{fullShare} arg9.view.writes (Elt F) f LT3) ∗ (∃ f, arg10.view.loc (c : Thread nD τ) ↦[arg10.view.set]{fullShare} arg10.view.writes (Elt F) f LT4)) -∗ K ⟨⟩))
          ⊢ wp frame (wpE (defs₀ (F := F)) Variants.none c none) E (cc0__pass1_body i arg2 harg2 arg3 harg3 arg4 harg4 arg5 harg5 arg6 harg6 arg7 harg7 arg8 harg8 arg9 harg9 arg10 harg10) K } := by
  refine ⟨?_, ?_, ?_, ?_, ?_, ?_, ?_, ?_, fun E K => ?run⟩
  case run =>
    simp only [cc0__pass1_body_eq_skeleton]; unfold cc0__pass1_body_skel
    simp only [k0_part7_eq_skeleton, k0_part8_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]; · iexists _; iexact H1
    isplitl [H2]; · iexists _; iexact H2
    isplitl [H3]; · iexists _; iexact H3
    isplitl [HS0]; · iexists _; iexact HS0
    isplitl [HS1]; · iexists _; iexact HS1
    isplitl [HS2]; · iexists _; iexact HS2
    isplitl [HS3]; · iexists _; iexact HS3
    iexists _; iexact HS4

end Cert.KernelIdeal.R0

end
-- ==== Proof.R0.Body.lean ====
/- The first call: what the body leaves at every grid point, the proof data, and the body obligation. -/
module

public import proofs.«01_k».proof.Proof.R0.RunC
public import Idealize.ShloMosaic.Lib.Pipeline.Frame

@[expose] public section

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The stores of case A into output 1 cover its block. -/
theorem cover0_A_1 (c : Dev nD) (i : grid0.Coords) (arg2 : Memref sig .tc .vmem S1x24x224x224 .f32) (harg2 : arg2.IsWhole) (arg3 : Memref sig .tc .vmem S1x8x226x226 .f32) (harg3 : arg3.IsWhole) (arg4 : Memref sig .tc .vmem S1x224x224 .f32) (harg4 : arg4.IsWhole) (arg5 : Memref sig .tc .vmem S1x1x1 .f32) (harg5 : arg5.IsWhole) (arg6 : Memref sig .tc .vmem S24x232x226 .f32) (harg6 : arg6.IsWhole) (arg7 : Memref sig .tc .vmem S24x232x226 .f32) (harg7 : arg7.IsWhole) (arg8 : Memref sig .tc .vmem S24x232x226 .f32) (harg8 : arg8.IsWhole) (arg9 : Memref sig .tc .vmem S24x232x226 .f32) (harg9 : arg9.IsWhole) (arg10 : Memref sig .tc .vmem S24x226x226 .f32) (harg10 : arg10.IsWhole) (hc0 : cond0_0 i) (hc1 : ¬cond0_1 i) (hc2 : ¬cond0_2 i)
    (x0 : Vec F S1x24x224x224 .f32) (y : S1x8x226x226.Idx) :
    ∃ pc ∈ (kernelRun0_A c i arg2 harg2 arg3 harg3 arg4 harg4 arg5 harg5 arg6 harg6 arg7 harg7 arg8 harg8 arg9 harg9 arg10 harg10 hc0 hc1 hc2 x0).1, y ∈ pc.1.set :=
  View.cover_of_tiledL (kernelRun0_A c i arg2 harg2 arg3 harg3 arg4 harg4 arg5 harg5 arg6 harg6 arg7 harg7 arg8 harg8 arg9 harg9 arg10 harg10 hc0 hc1 hc2 x0).1 S1x1x226x226.size (by sl_kernel_rfl) y

/-- What case A leaves in output 1's buffer. -/
def out0_A_1 (c : Dev nD) (i : grid0.Coords) (arg2 : Memref sig .tc .vmem S1x24x224x224 .f32) (harg2 : arg2.IsWhole) (arg3 : Memref sig .tc .vmem S1x8x226x226 .f32) (harg3 : arg3.IsWhole) (arg4 : Memref sig .tc .vmem S1x224x224 .f32) (harg4 : arg4.IsWhole) (arg5 : Memref sig .tc .vmem S1x1x1 .f32) (harg5 : arg5.IsWhole) (arg6 : Memref sig .tc .vmem S24x232x226 .f32) (harg6 : arg6.IsWhole) (arg7 : Memref sig .tc .vmem S24x232x226 .f32) (harg7 : arg7.IsWhole) (arg8 : Memref sig .tc .vmem S24x232x226 .f32) (harg8 : arg8.IsWhole) (arg9 : Memref sig .tc .vmem S24x232x226 .f32) (harg9 : arg9.IsWhole) (arg10 : Memref sig .tc .vmem S24x226x226 .f32) (harg10 : arg10.IsWhole) (hc0 : cond0_0 i) (hc1 : ¬cond0_1 i) (hc2 : ¬cond0_2 i)
    (x0 : Vec F S1x24x224x224 .f32) : Vec F S1x8x226x226 .f32 :=
  VO0_1.read (Elt F) (VO0_1.writes (Elt F) VO0_1.junk (kernelRun0_A c i arg2 harg2 arg3 harg3 arg4 harg4 arg5 harg5 arg6 harg6 arg7 harg7 arg8 harg8 arg9 harg9 arg10 harg10 hc0 hc1 hc2 x0).1)

/-- The stores of case A into output 2 cover its block. -/
theorem cover0_A_2 (c : Dev nD) (i : grid0.Coords) (arg2 : Memref sig .tc .vmem S1x24x224x224 .f32) (harg2 : arg2.IsWhole) (arg3 : Memref sig .tc .vmem S1x8x226x226 .f32) (harg3 : arg3.IsWhole) (arg4 : Memref sig .tc .vmem S1x224x224 .f32) (harg4 : arg4.IsWhole) (arg5 : Memref sig .tc .vmem S1x1x1 .f32) (harg5 : arg5.IsWhole) (arg6 : Memref sig .tc .vmem S24x232x226 .f32) (harg6 : arg6.IsWhole) (arg7 : Memref sig .tc .vmem S24x232x226 .f32) (harg7 : arg7.IsWhole) (arg8 : Memref sig .tc .vmem S24x232x226 .f32) (harg8 : arg8.IsWhole) (arg9 : Memref sig .tc .vmem S24x232x226 .f32) (harg9 : arg9.IsWhole) (arg10 : Memref sig .tc .vmem S24x226x226 .f32) (harg10 : arg10.IsWhole) (hc0 : cond0_0 i) (hc1 : ¬cond0_1 i) (hc2 : ¬cond0_2 i)
    (x0 : Vec F S1x24x224x224 .f32) (y : S1x224x224.Idx) :
    ∃ pc ∈ (kernelRun0_A c i arg2 harg2 arg3 harg3 arg4 harg4 arg5 harg5 arg6 harg6 arg7 harg7 arg8 harg8 arg9 harg9 arg10 harg10 hc0 hc1 hc2 x0).2.1, y ∈ pc.1.set :=
  View.cover_of_tiledL (kernelRun0_A c i arg2 harg2 arg3 harg3 arg4 harg4 arg5 harg5 arg6 harg6 arg7 harg7 arg8 harg8 arg9 harg9 arg10 harg10 hc0 hc1 hc2 x0).2.1 S1x224x224.size (by sl_kernel_rfl) y

/-- What case A leaves in output 2's buffer. -/
def out0_A_2 (c : Dev nD) (i : grid0.Coords) (arg2 : Memref sig .tc .vmem S1x24x224x224 .f32) (harg2 : arg2.IsWhole) (arg3 : Memref sig .tc .vmem S1x8x226x226 .f32) (harg3 : arg3.IsWhole) (arg4 : Memref sig .tc .vmem S1x224x224 .f32) (harg4 : arg4.IsWhole) (arg5 : Memref sig .tc .vmem S1x1x1 .f32) (harg5 : arg5.IsWhole) (arg6 : Memref sig .tc .vmem S24x232x226 .f32) (harg6 : arg6.IsWhole) (arg7 : Memref sig .tc .vmem S24x232x226 .f32) (harg7 : arg7.IsWhole) (arg8 : Memref sig .tc .vmem S24x232x226 .f32) (harg8 : arg8.IsWhole) (arg9 : Memref sig .tc .vmem S24x232x226 .f32) (harg9 : arg9.IsWhole) (arg10 : Memref sig .tc .vmem S24x226x226 .f32) (harg10 : arg10.IsWhole) (hc0 : cond0_0 i) (hc1 : ¬cond0_1 i) (hc2 : ¬cond0_2 i)
    (x0 : Vec F S1x24x224x224 .f32) : Vec F S1x224x224 .f32 :=
  VO0_2.read (Elt F) (VO0_2.writes (Elt F) VO0_2.junk (kernelRun0_A c i arg2 harg2 arg3 harg3 arg4 harg4 arg5 harg5 arg6 harg6 arg7 harg7 arg8 harg8 arg9 harg9 arg10 harg10 hc0 hc1 hc2 x0).2.1)

/-- What case A leaves in output 3's buffer. -/
def out0_A_3 (c : Dev nD) (i : grid0.Coords) (arg2 : Memref sig .tc .vmem S1x24x224x224 .f32) (harg2 : arg2.IsWhole) (arg3 : Memref sig .tc .vmem S1x8x226x226 .f32) (harg3 : arg3.IsWhole) (arg4 : Memref sig .tc .vmem S1x224x224 .f32) (harg4 : arg4.IsWhole) (arg5 : Memref sig .tc .vmem S1x1x1 .f32) (harg5 : arg5.IsWhole) (arg6 : Memref sig .tc .vmem S24x232x226 .f32) (harg6 : arg6.IsWhole) (arg7 : Memref sig .tc .vmem S24x232x226 .f32) (harg7 : arg7.IsWhole) (arg8 : Memref sig .tc .vmem S24x232x226 .f32) (harg8 : arg8.IsWhole) (arg9 : Memref sig .tc .vmem S24x232x226 .f32) (harg9 : arg9.IsWhole) (arg10 : Memref sig .tc .vmem S24x226x226 .f32) (harg10 : arg10.IsWhole) (hc0 : cond0_0 i) (hc1 : ¬cond0_1 i) (hc2 : ¬cond0_2 i)
    (x0 : Vec F S1x24x224x224 .f32) : Vec F S1x1x1 .f32 :=
  VO0_3.read (Elt F) (VO0_3.writes (Elt F) VO0_3.junk (kernelRun0_A c i arg2 harg2 arg3 harg3 arg4 harg4 arg5 harg5 arg6 harg6 arg7 harg7 arg8 harg8 arg9 harg9 arg10 harg10 hc0 hc1 hc2 x0).2.2.1)

/-- The stores of case B into output 1 cover its block. -/
theorem cover0_B_1 (c : Dev nD) (i : grid0.Coords) (arg2 : Memref sig .tc .vmem S1x24x224x224 .f32) (harg2 : arg2.IsWhole) (arg3 : Memref sig .tc .vmem S1x8x226x226 .f32) (harg3 : arg3.IsWhole) (arg4 : Memref sig .tc .vmem S1x224x224 .f32) (harg4 : arg4.IsWhole) (arg5 : Memref sig .tc .vmem S1x1x1 .f32) (harg5 : arg5.IsWhole) (arg6 : Memref sig .tc .vmem S24x232x226 .f32) (harg6 : arg6.IsWhole) (arg7 : Memref sig .tc .vmem S24x232x226 .f32) (harg7 : arg7.IsWhole) (arg8 : Memref sig .tc .vmem S24x232x226 .f32) (harg8 : arg8.IsWhole) (arg9 : Memref sig .tc .vmem S24x232x226 .f32) (harg9 : arg9.IsWhole) (arg10 : Memref sig .tc .vmem S24x226x226 .f32) (harg10 : arg10.IsWhole) (hc0 : ¬cond0_0 i) (hc1 : cond0_1 i) (hc2 : ¬cond0_2 i)
    (x0 : Vec F S1x24x224x224 .f32) (xo1 : Vec F S1x8x226x226 .f32) (xo2 : Vec F S1x224x224 .f32) (y : S1x8x226x226.Idx) :
    ∃ pc ∈ (kernelRun0_B c i arg2 harg2 arg3 harg3 arg4 harg4 arg5 harg5 arg6 harg6 arg7 harg7 arg8 harg8 arg9 harg9 arg10 harg10 hc0 hc1 hc2 x0 xo1 xo2).1, y ∈ pc.1.set :=
  View.cover_of_tiledL (kernelRun0_B c i arg2 harg2 arg3 harg3 arg4 harg4 arg5 harg5 arg6 harg6 arg7 harg7 arg8 harg8 arg9 harg9 arg10 harg10 hc0 hc1 hc2 x0 xo1 xo2).1 S1x1x226x226.size (by sl_kernel_rfl) y

/-- What case B leaves in output 1's buffer. -/
def out0_B_1 (c : Dev nD) (i : grid0.Coords) (arg2 : Memref sig .tc .vmem S1x24x224x224 .f32) (harg2 : arg2.IsWhole) (arg3 : Memref sig .tc .vmem S1x8x226x226 .f32) (harg3 : arg3.IsWhole) (arg4 : Memref sig .tc .vmem S1x224x224 .f32) (harg4 : arg4.IsWhole) (arg5 : Memref sig .tc .vmem S1x1x1 .f32) (harg5 : arg5.IsWhole) (arg6 : Memref sig .tc .vmem S24x232x226 .f32) (harg6 : arg6.IsWhole) (arg7 : Memref sig .tc .vmem S24x232x226 .f32) (harg7 : arg7.IsWhole) (arg8 : Memref sig .tc .vmem S24x232x226 .f32) (harg8 : arg8.IsWhole) (arg9 : Memref sig .tc .vmem S24x232x226 .f32) (harg9 : arg9.IsWhole) (arg10 : Memref sig .tc .vmem S24x226x226 .f32) (harg10 : arg10.IsWhole) (hc0 : ¬cond0_0 i) (hc1 : cond0_1 i) (hc2 : ¬cond0_2 i)
    (x0 : Vec F S1x24x224x224 .f32) (xo1 : Vec F S1x8x226x226 .f32) (xo2 : Vec F S1x224x224 .f32) : Vec F S1x8x226x226 .f32 :=
  VO0_1.read (Elt F) (VO0_1.writes (Elt F) VO0_1.junk (kernelRun0_B c i arg2 harg2 arg3 harg3 arg4 harg4 arg5 harg5 arg6 harg6 arg7 harg7 arg8 harg8 arg9 harg9 arg10 harg10 hc0 hc1 hc2 x0 xo1 xo2).1)

/-- The stores of case B into output 2 cover its block. -/
theorem cover0_B_2 (c : Dev nD) (i : grid0.Coords) (arg2 : Memref sig .tc .vmem S1x24x224x224 .f32) (harg2 : arg2.IsWhole) (arg3 : Memref sig .tc .vmem S1x8x226x226 .f32) (harg3 : arg3.IsWhole) (arg4 : Memref sig .tc .vmem S1x224x224 .f32) (harg4 : arg4.IsWhole) (arg5 : Memref sig .tc .vmem S1x1x1 .f32) (harg5 : arg5.IsWhole) (arg6 : Memref sig .tc .vmem S24x232x226 .f32) (harg6 : arg6.IsWhole) (arg7 : Memref sig .tc .vmem S24x232x226 .f32) (harg7 : arg7.IsWhole) (arg8 : Memref sig .tc .vmem S24x232x226 .f32) (harg8 : arg8.IsWhole) (arg9 : Memref sig .tc .vmem S24x232x226 .f32) (harg9 : arg9.IsWhole) (arg10 : Memref sig .tc .vmem S24x226x226 .f32) (harg10 : arg10.IsWhole) (hc0 : ¬cond0_0 i) (hc1 : cond0_1 i) (hc2 : ¬cond0_2 i)
    (x0 : Vec F S1x24x224x224 .f32) (xo1 : Vec F S1x8x226x226 .f32) (xo2 : Vec F S1x224x224 .f32) (y : S1x224x224.Idx) :
    ∃ pc ∈ (kernelRun0_B c i arg2 harg2 arg3 harg3 arg4 harg4 arg5 harg5 arg6 harg6 arg7 harg7 arg8 harg8 arg9 harg9 arg10 harg10 hc0 hc1 hc2 x0 xo1 xo2).2.1, y ∈ pc.1.set :=
  View.cover_of_tiledL (kernelRun0_B c i arg2 harg2 arg3 harg3 arg4 harg4 arg5 harg5 arg6 harg6 arg7 harg7 arg8 harg8 arg9 harg9 arg10 harg10 hc0 hc1 hc2 x0 xo1 xo2).2.1 S1x224x224.size (by sl_kernel_rfl) y

/-- What case B leaves in output 2's buffer. -/
def out0_B_2 (c : Dev nD) (i : grid0.Coords) (arg2 : Memref sig .tc .vmem S1x24x224x224 .f32) (harg2 : arg2.IsWhole) (arg3 : Memref sig .tc .vmem S1x8x226x226 .f32) (harg3 : arg3.IsWhole) (arg4 : Memref sig .tc .vmem S1x224x224 .f32) (harg4 : arg4.IsWhole) (arg5 : Memref sig .tc .vmem S1x1x1 .f32) (harg5 : arg5.IsWhole) (arg6 : Memref sig .tc .vmem S24x232x226 .f32) (harg6 : arg6.IsWhole) (arg7 : Memref sig .tc .vmem S24x232x226 .f32) (harg7 : arg7.IsWhole) (arg8 : Memref sig .tc .vmem S24x232x226 .f32) (harg8 : arg8.IsWhole) (arg9 : Memref sig .tc .vmem S24x232x226 .f32) (harg9 : arg9.IsWhole) (arg10 : Memref sig .tc .vmem S24x226x226 .f32) (harg10 : arg10.IsWhole) (hc0 : ¬cond0_0 i) (hc1 : cond0_1 i) (hc2 : ¬cond0_2 i)
    (x0 : Vec F S1x24x224x224 .f32) (xo1 : Vec F S1x8x226x226 .f32) (xo2 : Vec F S1x224x224 .f32) : Vec F S1x224x224 .f32 :=
  VO0_2.read (Elt F) (VO0_2.writes (Elt F) VO0_2.junk (kernelRun0_B c i arg2 harg2 arg3 harg3 arg4 harg4 arg5 harg5 arg6 harg6 arg7 harg7 arg8 harg8 arg9 harg9 arg10 harg10 hc0 hc1 hc2 x0 xo1 xo2).2.1)

/-- What case B leaves in output 3's buffer. -/
def out0_B_3 (c : Dev nD) (i : grid0.Coords) (arg2 : Memref sig .tc .vmem S1x24x224x224 .f32) (harg2 : arg2.IsWhole) (arg3 : Memref sig .tc .vmem S1x8x226x226 .f32) (harg3 : arg3.IsWhole) (arg4 : Memref sig .tc .vmem S1x224x224 .f32) (harg4 : arg4.IsWhole) (arg5 : Memref sig .tc .vmem S1x1x1 .f32) (harg5 : arg5.IsWhole) (arg6 : Memref sig .tc .vmem S24x232x226 .f32) (harg6 : arg6.IsWhole) (arg7 : Memref sig .tc .vmem S24x232x226 .f32) (harg7 : arg7.IsWhole) (arg8 : Memref sig .tc .vmem S24x232x226 .f32) (harg8 : arg8.IsWhole) (arg9 : Memref sig .tc .vmem S24x232x226 .f32) (harg9 : arg9.IsWhole) (arg10 : Memref sig .tc .vmem S24x226x226 .f32) (harg10 : arg10.IsWhole) (hc0 : ¬cond0_0 i) (hc1 : cond0_1 i) (hc2 : ¬cond0_2 i)
    (x0 : Vec F S1x24x224x224 .f32) (xo1 : Vec F S1x8x226x226 .f32) (xo2 : Vec F S1x224x224 .f32) : Vec F S1x1x1 .f32 :=
  VO0_3.read (Elt F) (VO0_3.writes (Elt F) VO0_3.junk (kernelRun0_B c i arg2 harg2 arg3 harg3 arg4 harg4 arg5 harg5 arg6 harg6 arg7 harg7 arg8 harg8 arg9 harg9 arg10 harg10 hc0 hc1 hc2 x0 xo1 xo2).2.2.1)

/-- The stores of case C into output 1 cover its block. -/
theorem cover0_C_1 (c : Dev nD) (i : grid0.Coords) (arg2 : Memref sig .tc .vmem S1x24x224x224 .f32) (harg2 : arg2.IsWhole) (arg3 : Memref sig .tc .vmem S1x8x226x226 .f32) (harg3 : arg3.IsWhole) (arg4 : Memref sig .tc .vmem S1x224x224 .f32) (harg4 : arg4.IsWhole) (arg5 : Memref sig .tc .vmem S1x1x1 .f32) (harg5 : arg5.IsWhole) (arg6 : Memref sig .tc .vmem S24x232x226 .f32) (harg6 : arg6.IsWhole) (arg7 : Memref sig .tc .vmem S24x232x226 .f32) (harg7 : arg7.IsWhole) (arg8 : Memref sig .tc .vmem S24x232x226 .f32) (harg8 : arg8.IsWhole) (arg9 : Memref sig .tc .vmem S24x232x226 .f32) (harg9 : arg9.IsWhole) (arg10 : Memref sig .tc .vmem S24x226x226 .f32) (harg10 : arg10.IsWhole) (hc0 : ¬cond0_0 i) (hc1 : cond0_1 i) (hc2 : cond0_2 i)
    (x0 : Vec F S1x24x224x224 .f32) (xo1 : Vec F S1x8x226x226 .f32) (xo2 : Vec F S1x224x224 .f32) (y : S1x8x226x226.Idx) :
    ∃ pc ∈ (kernelRun0_C c i arg2 harg2 arg3 harg3 arg4 harg4 arg5 harg5 arg6 harg6 arg7 harg7 arg8 harg8 arg9 harg9 arg10 harg10 hc0 hc1 hc2 x0 xo1 xo2).1, y ∈ pc.1.set :=
  View.cover_of_tiledL (kernelRun0_C c i arg2 harg2 arg3 harg3 arg4 harg4 arg5 harg5 arg6 harg6 arg7 harg7 arg8 harg8 arg9 harg9 arg10 harg10 hc0 hc1 hc2 x0 xo1 xo2).1 S1x1x226x226.size (by sl_kernel_rfl) y

/-- What case C leaves in output 1's buffer. -/
def out0_C_1 (c : Dev nD) (i : grid0.Coords) (arg2 : Memref sig .tc .vmem S1x24x224x224 .f32) (harg2 : arg2.IsWhole) (arg3 : Memref sig .tc .vmem S1x8x226x226 .f32) (harg3 : arg3.IsWhole) (arg4 : Memref sig .tc .vmem S1x224x224 .f32) (harg4 : arg4.IsWhole) (arg5 : Memref sig .tc .vmem S1x1x1 .f32) (harg5 : arg5.IsWhole) (arg6 : Memref sig .tc .vmem S24x232x226 .f32) (harg6 : arg6.IsWhole) (arg7 : Memref sig .tc .vmem S24x232x226 .f32) (harg7 : arg7.IsWhole) (arg8 : Memref sig .tc .vmem S24x232x226 .f32) (harg8 : arg8.IsWhole) (arg9 : Memref sig .tc .vmem S24x232x226 .f32) (harg9 : arg9.IsWhole) (arg10 : Memref sig .tc .vmem S24x226x226 .f32) (harg10 : arg10.IsWhole) (hc0 : ¬cond0_0 i) (hc1 : cond0_1 i) (hc2 : cond0_2 i)
    (x0 : Vec F S1x24x224x224 .f32) (xo1 : Vec F S1x8x226x226 .f32) (xo2 : Vec F S1x224x224 .f32) : Vec F S1x8x226x226 .f32 :=
  VO0_1.read (Elt F) (VO0_1.writes (Elt F) VO0_1.junk (kernelRun0_C c i arg2 harg2 arg3 harg3 arg4 harg4 arg5 harg5 arg6 harg6 arg7 harg7 arg8 harg8 arg9 harg9 arg10 harg10 hc0 hc1 hc2 x0 xo1 xo2).1)

/-- The stores of case C into output 2 cover its block. -/
theorem cover0_C_2 (c : Dev nD) (i : grid0.Coords) (arg2 : Memref sig .tc .vmem S1x24x224x224 .f32) (harg2 : arg2.IsWhole) (arg3 : Memref sig .tc .vmem S1x8x226x226 .f32) (harg3 : arg3.IsWhole) (arg4 : Memref sig .tc .vmem S1x224x224 .f32) (harg4 : arg4.IsWhole) (arg5 : Memref sig .tc .vmem S1x1x1 .f32) (harg5 : arg5.IsWhole) (arg6 : Memref sig .tc .vmem S24x232x226 .f32) (harg6 : arg6.IsWhole) (arg7 : Memref sig .tc .vmem S24x232x226 .f32) (harg7 : arg7.IsWhole) (arg8 : Memref sig .tc .vmem S24x232x226 .f32) (harg8 : arg8.IsWhole) (arg9 : Memref sig .tc .vmem S24x232x226 .f32) (harg9 : arg9.IsWhole) (arg10 : Memref sig .tc .vmem S24x226x226 .f32) (harg10 : arg10.IsWhole) (hc0 : ¬cond0_0 i) (hc1 : cond0_1 i) (hc2 : cond0_2 i)
    (x0 : Vec F S1x24x224x224 .f32) (xo1 : Vec F S1x8x226x226 .f32) (xo2 : Vec F S1x224x224 .f32) (y : S1x224x224.Idx) :
    ∃ pc ∈ (kernelRun0_C c i arg2 harg2 arg3 harg3 arg4 harg4 arg5 harg5 arg6 harg6 arg7 harg7 arg8 harg8 arg9 harg9 arg10 harg10 hc0 hc1 hc2 x0 xo1 xo2).2.1, y ∈ pc.1.set :=
  View.cover_of_tiledL (kernelRun0_C c i arg2 harg2 arg3 harg3 arg4 harg4 arg5 harg5 arg6 harg6 arg7 harg7 arg8 harg8 arg9 harg9 arg10 harg10 hc0 hc1 hc2 x0 xo1 xo2).2.1 S1x224x224.size (by sl_kernel_rfl) y

/-- What case C leaves in output 2's buffer. -/
def out0_C_2 (c : Dev nD) (i : grid0.Coords) (arg2 : Memref sig .tc .vmem S1x24x224x224 .f32) (harg2 : arg2.IsWhole) (arg3 : Memref sig .tc .vmem S1x8x226x226 .f32) (harg3 : arg3.IsWhole) (arg4 : Memref sig .tc .vmem S1x224x224 .f32) (harg4 : arg4.IsWhole) (arg5 : Memref sig .tc .vmem S1x1x1 .f32) (harg5 : arg5.IsWhole) (arg6 : Memref sig .tc .vmem S24x232x226 .f32) (harg6 : arg6.IsWhole) (arg7 : Memref sig .tc .vmem S24x232x226 .f32) (harg7 : arg7.IsWhole) (arg8 : Memref sig .tc .vmem S24x232x226 .f32) (harg8 : arg8.IsWhole) (arg9 : Memref sig .tc .vmem S24x232x226 .f32) (harg9 : arg9.IsWhole) (arg10 : Memref sig .tc .vmem S24x226x226 .f32) (harg10 : arg10.IsWhole) (hc0 : ¬cond0_0 i) (hc1 : cond0_1 i) (hc2 : cond0_2 i)
    (x0 : Vec F S1x24x224x224 .f32) (xo1 : Vec F S1x8x226x226 .f32) (xo2 : Vec F S1x224x224 .f32) : Vec F S1x224x224 .f32 :=
  VO0_2.read (Elt F) (VO0_2.writes (Elt F) VO0_2.junk (kernelRun0_C c i arg2 harg2 arg3 harg3 arg4 harg4 arg5 harg5 arg6 harg6 arg7 harg7 arg8 harg8 arg9 harg9 arg10 harg10 hc0 hc1 hc2 x0 xo1 xo2).2.1)

/-- The stores of case C into output 3 cover its block. -/
theorem cover0_C_3 (c : Dev nD) (i : grid0.Coords) (arg2 : Memref sig .tc .vmem S1x24x224x224 .f32) (harg2 : arg2.IsWhole) (arg3 : Memref sig .tc .vmem S1x8x226x226 .f32) (harg3 : arg3.IsWhole) (arg4 : Memref sig .tc .vmem S1x224x224 .f32) (harg4 : arg4.IsWhole) (arg5 : Memref sig .tc .vmem S1x1x1 .f32) (harg5 : arg5.IsWhole) (arg6 : Memref sig .tc .vmem S24x232x226 .f32) (harg6 : arg6.IsWhole) (arg7 : Memref sig .tc .vmem S24x232x226 .f32) (harg7 : arg7.IsWhole) (arg8 : Memref sig .tc .vmem S24x232x226 .f32) (harg8 : arg8.IsWhole) (arg9 : Memref sig .tc .vmem S24x232x226 .f32) (harg9 : arg9.IsWhole) (arg10 : Memref sig .tc .vmem S24x226x226 .f32) (harg10 : arg10.IsWhole) (hc0 : ¬cond0_0 i) (hc1 : cond0_1 i) (hc2 : cond0_2 i)
    (x0 : Vec F S1x24x224x224 .f32) (xo1 : Vec F S1x8x226x226 .f32) (xo2 : Vec F S1x224x224 .f32) (y : S1x1x1.Idx) :
    ∃ pc ∈ (kernelRun0_C c i arg2 harg2 arg3 harg3 arg4 harg4 arg5 harg5 arg6 harg6 arg7 harg7 arg8 harg8 arg9 harg9 arg10 harg10 hc0 hc1 hc2 x0 xo1 xo2).2.2.1, y ∈ pc.1.set :=
  View.cover_of_tiledL (kernelRun0_C c i arg2 harg2 arg3 harg3 arg4 harg4 arg5 harg5 arg6 harg6 arg7 harg7 arg8 harg8 arg9 harg9 arg10 harg10 hc0 hc1 hc2 x0 xo1 xo2).2.2.1 S1x1x1.size (by sl_kernel_rfl) y

/-- What case C leaves in output 3's buffer. -/
def out0_C_3 (c : Dev nD) (i : grid0.Coords) (arg2 : Memref sig .tc .vmem S1x24x224x224 .f32) (harg2 : arg2.IsWhole) (arg3 : Memref sig .tc .vmem S1x8x226x226 .f32) (harg3 : arg3.IsWhole) (arg4 : Memref sig .tc .vmem S1x224x224 .f32) (harg4 : arg4.IsWhole) (arg5 : Memref sig .tc .vmem S1x1x1 .f32) (harg5 : arg5.IsWhole) (arg6 : Memref sig .tc .vmem S24x232x226 .f32) (harg6 : arg6.IsWhole) (arg7 : Memref sig .tc .vmem S24x232x226 .f32) (harg7 : arg7.IsWhole) (arg8 : Memref sig .tc .vmem S24x232x226 .f32) (harg8 : arg8.IsWhole) (arg9 : Memref sig .tc .vmem S24x232x226 .f32) (harg9 : arg9.IsWhole) (arg10 : Memref sig .tc .vmem S24x226x226 .f32) (harg10 : arg10.IsWhole) (hc0 : ¬cond0_0 i) (hc1 : cond0_1 i) (hc2 : cond0_2 i)
    (x0 : Vec F S1x24x224x224 .f32) (xo1 : Vec F S1x8x226x226 .f32) (xo2 : Vec F S1x224x224 .f32) : Vec F S1x1x1 .f32 :=
  VO0_3.read (Elt F) (VO0_3.writes (Elt F) VO0_3.junk (kernelRun0_C c i arg2 harg2 arg3 harg3 arg4 harg4 arg5 harg5 arg6 harg6 arg7 harg7 arg8 harg8 arg9 harg9 arg10 harg10 hc0 hc1 hc2 x0 xo1 xo2).2.2.1)

/-! ## What the outputs hold after each point -/

/-- What the output buffers hold after point `n`, by the case the point is in; a buffer that is added to starts from what
    point `n - 1` left. -/
def outsAt0 (c : Dev nD) : (n : ℕ) → n < cfg0.N → Vec F S1x8x226x226 .f32 × Vec F S1x224x224 .f32 × Vec F S1x1x1 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩))
  | n + 1, hn =>
    if h0 : (n + 1) % 4 = 0 then
      if h1 : 1 ≤ (n + 1) % 4 then
        False.elim (by have hN : n + 1 < 16 := lt_of_lt_of_eq hn (show cfg0.N = 16 from N_0); omega)
      else
        if h2 : (n + 1) % 4 = 3 then
          False.elim (by have hN : n + 1 < 16 := lt_of_lt_of_eq hn (show cfg0.N = 16 from N_0); omega)
        else
          (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩))
    else
      if h1 : 1 ≤ (n + 1) % 4 then
        if h2 : (n + 1) % 4 = 3 then
          (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) ((hcond0_2 ⟨n + 1, hn⟩).mpr h2) (iblk m c 0 ⟨n + 1, hn⟩) (outsAt0 c n (Nat.lt_of_succ_lt hn)).1 (outsAt0 c n (Nat.lt_of_succ_lt hn)).2.1, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) ((hcond0_2 ⟨n + 1, hn⟩).mpr h2) (iblk m c 0 ⟨n + 1, hn⟩) (outsAt0 c n (Nat.lt_of_succ_lt hn)).1 (outsAt0 c n (Nat.lt_of_succ_lt hn)).2.1, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) ((hcond0_2 ⟨n + 1, hn⟩).mpr h2) (iblk m c 0 ⟨n + 1, hn⟩) (outsAt0 c n (Nat.lt_of_succ_lt hn)).1 (outsAt0 c n (Nat.lt_of_succ_lt hn)).2.1)
        else
          (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (outsAt0 c n (Nat.lt_of_succ_lt hn)).1 (outsAt0 c n (Nat.lt_of_succ_lt hn)).2.1, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (outsAt0 c n (Nat.lt_of_succ_lt hn)).1 (outsAt0 c n (Nat.lt_of_succ_lt hn)).2.1, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (outsAt0 c n (Nat.lt_of_succ_lt hn)).1 (outsAt0 c n (Nat.lt_of_succ_lt hn)).2.1)
      else
        False.elim (by have hN : n + 1 < 16 := lt_of_lt_of_eq hn (show cfg0.N = 16 from N_0); omega)

/-- `outsAt0` at a point of case A. -/
theorem outsAt0_A (c : Dev nD) (t : Fin cfg0.N) (h0 : t.val % 4 = 0) (h1 : ¬1 ≤ t.val % 4) (h2 : ¬t.val % 4 = 3) :
    outsAt0 m c t.val t.isLt = (out0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t), out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t), out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t)) := by
  obtain ⟨n, hn⟩ := t
  cases n with
  | zero => exact rfl
  | succ n => exact (dif_pos h0).trans ((dif_neg h1).trans ((dif_neg h2).trans rfl))

/-- `outsAt0` at a point of case B. -/
theorem outsAt0_B (c : Dev nD) (t : Fin cfg0.N) (h0 : ¬t.val % 4 = 0) (h1 : 1 ≤ t.val % 4) (h2 : ¬t.val % 4 = 3) :
    outsAt0 m c t.val t.isLt = (out0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (outsAt0 m c (t.val - 1) (Nat.lt_of_le_of_lt (Nat.sub_le _ _) t.isLt)).1 (outsAt0 m c (t.val - 1) (Nat.lt_of_le_of_lt (Nat.sub_le _ _) t.isLt)).2.1, out0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (outsAt0 m c (t.val - 1) (Nat.lt_of_le_of_lt (Nat.sub_le _ _) t.isLt)).1 (outsAt0 m c (t.val - 1) (Nat.lt_of_le_of_lt (Nat.sub_le _ _) t.isLt)).2.1, out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (outsAt0 m c (t.val - 1) (Nat.lt_of_le_of_lt (Nat.sub_le _ _) t.isLt)).1 (outsAt0 m c (t.val - 1) (Nat.lt_of_le_of_lt (Nat.sub_le _ _) t.isLt)).2.1) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C. -/
theorem outsAt0_C (c : Dev nD) (t : Fin cfg0.N) (h0 : ¬t.val % 4 = 0) (h1 : 1 ≤ t.val % 4) (h2 : t.val % 4 = 3) :
    outsAt0 m c t.val t.isLt = (out0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) ((hcond0_2 t).mpr h2) (iblk m c 0 t) (outsAt0 m c (t.val - 1) (Nat.lt_of_le_of_lt (Nat.sub_le _ _) t.isLt)).1 (outsAt0 m c (t.val - 1) (Nat.lt_of_le_of_lt (Nat.sub_le _ _) t.isLt)).2.1, out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) ((hcond0_2 t).mpr h2) (iblk m c 0 t) (outsAt0 m c (t.val - 1) (Nat.lt_of_le_of_lt (Nat.sub_le _ _) t.isLt)).1 (outsAt0 m c (t.val - 1) (Nat.lt_of_le_of_lt (Nat.sub_le _ _) t.isLt)).2.1, out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) ((hcond0_2 t).mpr h2) (iblk m c 0 t) (outsAt0 m c (t.val - 1) (Nat.lt_of_le_of_lt (Nat.sub_le _ _) t.isLt)).1 (outsAt0 m c (t.val - 1) (Nat.lt_of_le_of_lt (Nat.sub_le _ _) t.isLt)).2.1) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-! ## The pipeline's proof data -/

/-- The pipeline's proof data on core `c`: the arrays as the call finds them, each input buffer at its block, and the output
    buffers at `outsAt0` or `outsAt1`. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
    | ⟨2, _⟩ => (outsAt0 m c t.val t.isLt).2.1
    | ⟨3, _⟩ => (outsAt0 m c t.val t.isLt).2.2
  Φ _ := Pipeline.ΦA spec0 c
  q _ := fullShare
  owed _ := 0

/-- The arrays are as the call finds them. -/
theorem A_eq (c : Dev nD) (w : Fin cfg0.W) : (dats m c).A w = V m c (Pipeline.arrRef spec0 w) := by
  dsimp only [dats]

/-- What the body leaves in each window's buffer. -/
theorem after0_0 (c : Dev nD) (t : Fin cfg0.N) : (dats m c).after 0 t = iblk m c 0 t := by dsimp only [dats]
theorem after0_1 (c : Dev nD) (t : Fin cfg0.N) : (dats m c).after 1 t = (outsAt0 m c t.val t.isLt).1 := by dsimp only [dats]
theorem after0_2 (c : Dev nD) (t : Fin cfg0.N) : (dats m c).after 2 t = (outsAt0 m c t.val t.isLt).2.1 := by dsimp only [dats]
theorem after0_3 (c : Dev nD) (t : Fin cfg0.N) : (dats m c).after 3 t = (outsAt0 m c t.val t.isLt).2.2 := by dsimp only [dats]

/-- Each input buffer holds its block at every point. -/
theorem before0_0 (c : Dev nD) (t : Fin cfg0.N) (d) : (dats m c).before 0 t d = iblk m c 0 t :=
  before0_0_of m (dats m c) (A_eq m c 0) (after0_0 m c) t d

/-- At a point that leaves output 1 alone its buffer keeps what the point before left. -/
theorem hcarry0_1 (c : Dev nD) : ∀ (t : Fin cfg0.N) (_ : t.val ≠ 0), cfg0.idle 1 (grid0.coords t) = true → cfg0.fresh 1 t.val = false →
    (dats m c).after 1 t = (dats m c).after 1 ⟨t.val - 1, by omega⟩ := by
  intro t _ hi _
  have hN : t.val < 16 := lt_of_lt_of_eq t.isLt (show cfg0.N = 16 from N_0)
  rw [after0_1, after0_1]
  by_cases h0 : t.val % 4 = 0
  · by_cases h1 : 1 ≤ t.val % 4
    · exfalso; omega
    · by_cases h2 : t.val % 4 = 3
      · exfalso; omega
      · rw [liveAt0_1_A t ((hcond0_0 t).mpr h0) (fun h => h1 ((hcond0_1 t).mp h)) (fun h => h2 ((hcond0_2 t).mp h))] at hi
        exact absurd hi Bool.false_ne_true
  · by_cases h1 : 1 ≤ t.val % 4
    · by_cases h2 : t.val % 4 = 3
      · rw [liveAt0_1_C t (fun h => h0 ((hcond0_0 t).mp h)) ((hcond0_1 t).mpr h1) ((hcond0_2 t).mpr h2)] at hi
        exact absurd hi Bool.false_ne_true
      · rw [liveAt0_1_B t (fun h => h0 ((hcond0_0 t).mp h)) ((hcond0_1 t).mpr h1) (fun h => h2 ((hcond0_2 t).mp h))] at hi
        exact absurd hi Bool.false_ne_true
    · exfalso; omega

/-- At a point that leaves output 2 alone its buffer keeps what the point before left. -/
theorem hcarry0_2 (c : Dev nD) : ∀ (t : Fin cfg0.N) (_ : t.val ≠ 0), cfg0.idle 2 (grid0.coords t) = true → cfg0.fresh 2 t.val = false →
    (dats m c).after 2 t = (dats m c).after 2 ⟨t.val - 1, by omega⟩ := by
  intro t _ hi _
  have hN : t.val < 16 := lt_of_lt_of_eq t.isLt (show cfg0.N = 16 from N_0)
  rw [after0_2, after0_2]
  by_cases h0 : t.val % 4 = 0
  · by_cases h1 : 1 ≤ t.val % 4
    · exfalso; omega
    · by_cases h2 : t.val % 4 = 3
      · exfalso; omega
      · rw [liveAt0_2_A t ((hcond0_0 t).mpr h0) (fun h => h1 ((hcond0_1 t).mp h)) (fun h => h2 ((hcond0_2 t).mp h))] at hi
        exact absurd hi Bool.false_ne_true
  · by_cases h1 : 1 ≤ t.val % 4
    · by_cases h2 : t.val % 4 = 3
      · rw [liveAt0_2_C t (fun h => h0 ((hcond0_0 t).mp h)) ((hcond0_1 t).mpr h1) ((hcond0_2 t).mpr h2)] at hi
        exact absurd hi Bool.false_ne_true
      · rw [liveAt0_2_B t (fun h => h0 ((hcond0_0 t).mp h)) ((hcond0_1 t).mpr h1) (fun h => h2 ((hcond0_2 t).mp h))] at hi
        exact absurd hi Bool.false_ne_true
    · exfalso; omega
/-- At a point of case B output 1's buffer holds what the point before left. -/
theorem before0_1_B (c : Dev nD) (t : Fin cfg0.N) (h0 : ¬t.val % 4 = 0) (h1 : 1 ≤ t.val % 4) (h2 : ¬t.val % 4 = 3) (d) :
    (dats m c).before 1 t d = (outsAt0 m c (t.val - 1) (Nat.lt_of_le_of_lt (Nat.sub_le _ _) t.isLt)).1 := by
  rw [Dat.before_out_traj _ 1 rfl (fun _ _ => rfl) (hcarry0_1 m c) t.val t rfl d,
    if_neg (by rw [notFresh0_1_B t (fun h => h0 ((hcond0_0 t).mp h)) ((hcond0_1 t).mpr h1) (fun h => h2 ((hcond0_2 t).mp h))]; exact Bool.false_ne_true)]
  dsimp only [dats]
/-- At a point of case B output 2's buffer holds what the point before left. -/
theorem before0_2_B (c : Dev nD) (t : Fin cfg0.N) (h0 : ¬t.val % 4 = 0) (h1 : 1 ≤ t.val % 4) (h2 : ¬t.val % 4 = 3) (d) :
    (dats m c).before 2 t d = (outsAt0 m c (t.val - 1) (Nat.lt_of_le_of_lt (Nat.sub_le _ _) t.isLt)).2.1 := by
  rw [Dat.before_out_traj _ 2 rfl (fun _ _ => rfl) (hcarry0_2 m c) t.val t rfl d,
    if_neg (by rw [notFresh0_2_B t (fun h => h0 ((hcond0_0 t).mp h)) ((hcond0_1 t).mpr h1) (fun h => h2 ((hcond0_2 t).mp h))]; exact Bool.false_ne_true)]
  dsimp only [dats]
/-- At a point of case C output 1's buffer holds what the point before left. -/
theorem before0_1_C (c : Dev nD) (t : Fin cfg0.N) (h0 : ¬t.val % 4 = 0) (h1 : 1 ≤ t.val % 4) (h2 : t.val % 4 = 3) (d) :
    (dats m c).before 1 t d = (outsAt0 m c (t.val - 1) (Nat.lt_of_le_of_lt (Nat.sub_le _ _) t.isLt)).1 := by
  rw [Dat.before_out_traj _ 1 rfl (fun _ _ => rfl) (hcarry0_1 m c) t.val t rfl d,
    if_neg (by rw [notFresh0_1_C t (fun h => h0 ((hcond0_0 t).mp h)) ((hcond0_1 t).mpr h1) ((hcond0_2 t).mpr h2)]; exact Bool.false_ne_true)]
  dsimp only [dats]
/-- At a point of case C output 2's buffer holds what the point before left. -/
theorem before0_2_C (c : Dev nD) (t : Fin cfg0.N) (h0 : ¬t.val % 4 = 0) (h1 : 1 ≤ t.val % 4) (h2 : t.val % 4 = 3) (d) :
    (dats m c).before 2 t d = (outsAt0 m c (t.val - 1) (Nat.lt_of_le_of_lt (Nat.sub_le _ _) t.isLt)).2.1 := by
  rw [Dat.before_out_traj _ 2 rfl (fun _ _ => rfl) (hcarry0_2 m c) t.val t rfl d,
    if_neg (by rw [notFresh0_2_C t (fun h => h0 ((hcond0_0 t).mp h)) ((hcond0_1 t).mpr h1) ((hcond0_2 t).mpr h2)]; exact Bool.false_ne_true)]
  dsimp only [dats]

/-! ## The body obligation -/

/-- What the body is given at point `t`. -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d)))

/-- What the body gives back at point `t`. -/
def bodyPost (c : Dev nD) (t : Fin cfg0.N) : sProp 𝕄 :=
  iprop((dats m c).Φ t.succ ∗ (dats m c).owesAt () t.succ
    ∗ (dats m c).leavesExact 0 t
    ∗ (dats m c).leavesExact 1 t
    ∗ (dats m c).leavesExact 2 t
    ∗ (dats m c).leavesExact 3 t)

set_option maxHeartbeats 2400000 in
/-- The body at any point turns what it is given into what it gives back, case by case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m c).Φ t.succ = (dats m c).Φ t.castSucc from rfl,
    show (dats m c).owesAt () t.succ = (dats m c).owesAt () t.castSucc from rfl]
  rw [show (dats m c).Φ t.castSucc = Pipeline.ΦA spec0 c from rfl, PhiA0_eq]
  have hN : t.val < 16 := lt_of_lt_of_eq t.isLt (show cfg0.N = 16 from N_0)
  by_cases h0 : t.val % 4 = 0
  · by_cases h1 : 1 ≤ t.val % 4
    · exfalso; omega
    · by_cases h2 : t.val % 4 = 3
      · exfalso; omega
      · rw [show (dats m c).leavesExact 0 t = owns (c : Thread nD τ) (ms0_0 t) fullShare ((dats m c).after 0 t) from by
      unfold Dat.leavesExact; rw [liveAt0_0 t], after0_0]
        rw [show (dats m c).leavesExact 1 t = owns (c : Thread nD τ) (ms0_1 t) fullShare ((dats m c).after 1 t) from by
      unfold Dat.leavesExact; rw [liveAt0_1_A t ((hcond0_0 t).mpr h0) (fun h => h1 ((hcond0_1 t).mp h)) (fun h => h2 ((hcond0_2 t).mp h))], after0_1]
        rw [show (dats m c).leavesExact 2 t = owns (c : Thread nD τ) (ms0_2 t) fullShare ((dats m c).after 2 t) from by
      unfold Dat.leavesExact; rw [liveAt0_2_A t ((hcond0_0 t).mpr h0) (fun h => h1 ((hcond0_1 t).mp h)) (fun h => h2 ((hcond0_2 t).mp h))], after0_2]
        rw [Dat.leavesExact_idle (dats m c) 3 t (idleAt0_3_A t ((hcond0_0 t).mpr h0) (fun h => h1 ((hcond0_1 t).mp h)) (fun h => h2 ((hcond0_2 t).mp h))) (noFlush0_3_A t ((hcond0_0 t).mpr h0) (fun h => h1 ((hcond0_1 t).mp h)) (fun h => h2 ((hcond0_2 t).mp h)))]
        rw [outsAt0_A m c t h0 h1 h2]
        unfold out0_A_1 out0_A_2; (try dsimp only)
        iintro ⟨⟨⟨HS0, HS1, HS2, HS3, HS4⟩, Hg⟩, Ho, ⟨%d0, H0⟩, ⟨%d1, H1⟩, ⟨%d2, H2⟩, ⟨%d3, H3⟩⟩
        iapply ((kernelRun0_A c (grid0.coords t) _ _ _ _ _ _ _ _ _ _ _ _ _ _ _ _ _ _ ((hcond0_0 t).mpr h0) (fun h => h1 ((hcond0_1 t).mp h)) (fun h => h2 ((hcond0_2 t).mp h)) (iblk m c 0 t)).2.2.2.2.2.2.2.2 _ Set.univ _)
        isplitl [H0]; · iexact H0
        isplitl [H1]; · iexists _; iexact H1
        isplitl [H2]; · iexists _; iexact H2
        isplitl [H3]; · iexact H3
        isplitl [HS0]; · iexact HS0
        isplitl [HS1]; · iexact HS1
        isplitl [HS2]; · iexact HS2
        isplitl [HS3]; · iexact HS3
        isplitl [HS4]; · iexact HS4
        iintro ⟨H0, ⟨%e1, H1⟩, ⟨%e2, H2⟩, H3, ⟨%fT0, HS0⟩, ⟨%fT1, HS1⟩, ⟨%fT2, HS2⟩, ⟨%fT3, HS3⟩, ⟨%fT4, HS4⟩⟩
        isplitl [HS0 HS1 HS2 HS3 HS4 Hg]
        · isplitl [HS0 HS1 HS2 HS3 HS4]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · iexists _; unfold owns; iexists _; isplitr
              swap; · iexact HS2
              ipureintro; rfl
            isplitl [HS3]
            · iexists _; unfold owns; iexists _; isplitr
              swap; · iexact HS3
              ipureintro; rfl
            iexists _; unfold owns; iexists _; isplitr
            swap; · iexact HS4
            ipureintro; rfl
          iexact Hg
        isplitl [Ho]; · iexact Ho
        isplitl [H0]; · iexact H0
        isplitl [H1]
        · unfold owns; iexists _; isplitr
          swap; · iexact H1
          ipureintro; exact View.read_writes_of_cover _ _ _ _ _ (cover0_A_1 c _ _ _ _ _ _ _ _ _ _ _ _ _ _ _ _ _ _ _ _ _ _ _)
        isplitl [H2]
        · unfold owns; iexists _; isplitr
          swap; · iexact H2
          ipureintro; exact View.read_writes_of_cover _ _ _ _ _ (cover0_A_2 c _ _ _ _ _ _ _ _ _ _ _ _ _ _ _ _ _ _ _ _ _ _ _)
        iexists _; iexact H3
  · by_cases h1 : 1 ≤ t.val % 4
    · by_cases h2 : t.val % 4 = 3
      · rw [show (dats m c).leavesExact 0 t = owns (c : Thread nD τ) (ms0_0 t) fullShare ((dats m c).after 0 t) from by
      unfold Dat.leavesExact; rw [liveAt0_0 t], after0_0]
        rw [show (dats m c).leavesExact 1 t = owns (c : Thread nD τ) (ms0_1 t) fullShare ((dats m c).after 1 t) from by
      unfold Dat.leavesExact; rw [liveAt0_1_C t (fun h => h0 ((hcond0_0 t).mp h)) ((hcond0_1 t).mpr h1) ((hcond0_2 t).mpr h2)], after0_1]
        rw [show (dats m c).leavesExact 2 t = owns (c : Thread nD τ) (ms0_2 t) fullShare ((dats m c).after 2 t) from by
      unfold Dat.leavesExact; rw [liveAt0_2_C t (fun h => h0 ((hcond0_0 t).mp h)) ((hcond0_1 t).mpr h1) ((hcond0_2 t).mpr h2)], after0_2]
        rw [show (dats m c).leavesExact 3 t = owns (c : Thread nD τ) (ms0_3 t) fullShare ((dats m c).after 3 t) from by
      unfold Dat.leavesExact; rw [liveAt0_3_C t (fun h => h0 ((hcond0_0 t).mp h)) ((hcond0_1 t).mpr h1) ((hcond0_2 t).mpr h2)], after0_3]
        rw [outsAt0_C m c t h0 h1 h2]
        simp only [before0_1_C m c t h0 h1 h2, before0_2_C m c t h0 h1 h2]
        unfold out0_C_1 out0_C_2 out0_C_3; (try dsimp only)
        iintro ⟨⟨⟨HS0, HS1, HS2, HS3, HS4⟩, Hg⟩, Ho, ⟨%d0, H0⟩, ⟨%d1, H1⟩, ⟨%d2, H2⟩, ⟨%d3, H3⟩⟩
        iapply ((kernelRun0_C c (grid0.coords t) _ _ _ _ _ _ _ _ _ _ _ _ _ _ _ _ _ _ (fun h => h0 ((hcond0_0 t).mp h)) ((hcond0_1 t).mpr h1) ((hcond0_2 t).mpr h2) (iblk m c 0 t) _ _).2.2.2.2.2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        isplitl [HS3]; · iexact HS3
        isplitl [HS4]; · iexact HS4
        iintro ⟨H0, ⟨%e1, H1⟩, ⟨%e2, H2⟩, ⟨%e3, H3⟩, ⟨%fT0, HS0⟩, ⟨%fT1, HS1⟩, ⟨%fT2, HS2⟩, ⟨%fT3, HS3⟩, ⟨%fT4, HS4⟩⟩
        isplitl [HS0 HS1 HS2 HS3 HS4 Hg]
        · isplitl [HS0 HS1 HS2 HS3 HS4]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · iexists _; unfold owns; iexists _; isplitr
              swap; · iexact HS2
              ipureintro; rfl
            isplitl [HS3]
            · iexists _; unfold owns; iexists _; isplitr
              swap; · iexact HS3
              ipureintro; rfl
            iexists _; unfold owns; iexists _; isplitr
            swap; · iexact HS4
            ipureintro; rfl
          iexact Hg
        isplitl [Ho]; · iexact Ho
        isplitl [H0]; · iexact H0
        isplitl [H1]
        · unfold owns; iexists _; isplitr
          swap; · iexact H1
          ipureintro; exact View.read_writes_of_cover _ _ _ _ _ (cover0_C_1 c _ _ _ _ _ _ _ _ _ _ _ _ _ _ _ _ _ _ _ _ _ _ _ _ _)
        isplitl [H2]
        · unfold owns; iexists _; isplitr
          swap; · iexact H2
          ipureintro; exact View.read_writes_of_cover _ _ _ _ _ (cover0_C_2 c _ _ _ _ _ _ _ _ _ _ _ _ _ _ _ _ _ _ _ _ _ _ _ _ _)
        unfold owns; iexists _; isplitr
        swap; · iexact H3
        ipureintro; exact View.read_writes_of_cover _ _ _ _ _ (cover0_C_3 c _ _ _ _ _ _ _ _ _ _ _ _ _ _ _ _ _ _ _ _ _ _ _ _ _)
      · rw [show (dats m c).leavesExact 0 t = owns (c : Thread nD τ) (ms0_0 t) fullShare ((dats m c).after 0 t) from by
      unfold Dat.leavesExact; rw [liveAt0_0 t], after0_0]
        rw [show (dats m c).leavesExact 1 t = owns (c : Thread nD τ) (ms0_1 t) fullShare ((dats m c).after 1 t) from by
      unfold Dat.leavesExact; rw [liveAt0_1_B t (fun h => h0 ((hcond0_0 t).mp h)) ((hcond0_1 t).mpr h1) (fun h => h2 ((hcond0_2 t).mp h))], after0_1]
        rw [show (dats m c).leavesExact 2 t = owns (c : Thread nD τ) (ms0_2 t) fullShare ((dats m c).after 2 t) from by
      unfold Dat.leavesExact; rw [liveAt0_2_B t (fun h => h0 ((hcond0_0 t).mp h)) ((hcond0_1 t).mpr h1) (fun h => h2 ((hcond0_2 t).mp h))], after0_2]
        rw [Dat.leavesExact_idle (dats m c) 3 t (idleAt0_3_B t (fun h => h0 ((hcond0_0 t).mp h)) ((hcond0_1 t).mpr h1) (fun h => h2 ((hcond0_2 t).mp h))) (noFlush0_3_B t (fun h => h0 ((hcond0_0 t).mp h)) ((hcond0_1 t).mpr h1) (fun h => h2 ((hcond0_2 t).mp h)))]
        rw [outsAt0_B m c t h0 h1 h2]
        simp only [before0_1_B m c t h0 h1 h2, before0_2_B m c t h0 h1 h2]
        unfold out0_B_1 out0_B_2; (try dsimp only)
        iintro ⟨⟨⟨HS0, HS1, HS2, HS3, HS4⟩, Hg⟩, Ho, ⟨%d0, H0⟩, ⟨%d1, H1⟩, ⟨%d2, H2⟩, ⟨%d3, H3⟩⟩
        iapply ((kernelRun0_B c (grid0.coords t) _ _ _ _ _ _ _ _ _ _ _ _ _ _ _ _ _ _ (fun h => h0 ((hcond0_0 t).mp h)) ((hcond0_1 t).mpr h1) (fun h => h2 ((hcond0_2 t).mp h)) (iblk m c 0 t) _ _).2.2.2.2.2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HS3]; · iexact HS3
        isplitl [HS4]; · iexact HS4
        iintro ⟨H0, ⟨%e1, H1⟩, ⟨%e2, H2⟩, H3, ⟨%fT0, HS0⟩, ⟨%fT1, HS1⟩, ⟨%fT2, HS2⟩, ⟨%fT3, HS3⟩, ⟨%fT4, HS4⟩⟩
        isplitl [HS0 HS1 HS2 HS3 HS4 Hg]
        · isplitl [HS0 HS1 HS2 HS3 HS4]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · iexists _; unfold owns; iexists _; isplitr
              swap; · iexact HS2
              ipureintro; rfl
            isplitl [HS3]
            · iexists _; unfold owns; iexists _; isplitr
              swap; · iexact HS3
              ipureintro; rfl
            iexists _; unfold owns; iexists _; isplitr
            swap; · iexact HS4
            ipureintro; rfl
          iexact Hg
        isplitl [Ho]; · iexact Ho
        isplitl [H0]; · iexact H0
        isplitl [H1]
        · unfold owns; iexists _; isplitr
          swap; · iexact H1
          ipureintro; exact View.read_writes_of_cover _ _ _ _ _ (cover0_B_1 c _ _ _ _ _ _ _ _ _ _ _ _ _ _ _ _ _ _ _ _ _ _ _ _ _)
        isplitl [H2]
        · unfold owns; iexists _; isplitr
          swap; · iexact H2
          ipureintro; exact View.read_writes_of_cover _ _ _ _ _ (cover0_B_2 c _ _ _ _ _ _ _ _ _ _ _ _ _ _ _ _ _ _ _ _ _ _ _ _ _)
        iexists _; iexact H3
    · exfalso; omega

/-- The program's table names this body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m c) (defs₀ (F := F)) Variants.none () Set.univ := fun t => by
  rw [bigSep_W0, bigSep_W0, defs₀_row]
  exact triple_restated (sound_body m c t) rfl .rfl fun _ => .rfl

end Cert.KernelIdeal.R0

end
-- ==== Proof.R0.Value.lean ====
/- The first call's outputs at an index, over the extended reals. -/
module

public import proofs.«01_k».proof.Proof.R0.Body
public import proofs.«01_k».proof.Proof.Pay

@[expose] public section

set_option maxRecDepth 16384

noncomputable section

namespace Cert.KernelIdeal.R0

open Cert.KernelIdeal.Gen Cert.KernelIdeal.Val
open Idealize.ShloMosaic Idealize.ShloMosaic.TcCoe Idealize.ShloMosaic.Tactic

theorem hz3 : (![0, 0, 0] : Fin 3 → Nat) = fun _ => 0 := by decide
theorem hz4 : (![0, 0, 0, 0] : Fin 4 → Nat) = fun _ => 0 := by decide

/-- The cross products one block of channels adds, as contents of the first output's block. -/
def planes (v : Vec Ideal S1x24x224x224 .f32) : Vec Ideal S1x8x226x226 .f32 := fun j => plane v (j 1) (j 2) (j 3)

theorem emb_at (n : ℕ) (hn : n < 8) (inb) (x : (Rect.unit (s := S1x8x226x226) ![0, n, 0, 0] ![1, 1, 226, 226] inb).shape.Idx) :
    (Rect.unit (s := S1x8x226x226) ![0, n, 0, 0] ![1, 1, 226, 226] inb).emb x = ix4 0 ⟨n, hn⟩ (x 2) (x 3) := by
  funext a
  apply Fin.ext
  match a with
  | ⟨0, _⟩ =>
    have h : (x 0).val < 1 := (x 0).isLt
    show 0 + 1 * (x 0).val = 0
    omega
  | ⟨1, _⟩ =>
    have h : (x 1).val < 1 := (x 1).isLt
    show n + 1 * (x 1).val = n
    omega
  | ⟨2, _⟩ => show 0 + 1 * (x 2).val = (x 2).val; omega
  | ⟨3, _⟩ => show 0 + 1 * (x 3).val = (x 3).val; omega

section
variable (c : Dev nD) (i : grid0.Coords) (arg2 : Memref sig .tc .vmem S1x24x224x224 .f32) (harg2 : arg2.IsWhole) (arg3 : Memref sig .tc .vmem S1x8x226x226 .f32) (harg3 : arg3.IsWhole) (arg4 : Memref sig .tc .vmem S1x224x224 .f32) (harg4 : arg4.IsWhole) (arg5 : Memref sig .tc .vmem S1x1x1 .f32) (harg5 : arg5.IsWhole) (arg6 : Memref sig .tc .vmem S24x232x226 .f32) (harg6 : arg6.IsWhole) (arg7 : Memref sig .tc .vmem S24x232x226 .f32) (harg7 : arg7.IsWhole) (arg8 : Memref sig .tc .vmem S24x232x226 .f32) (harg8 : arg8.IsWhole) (arg9 : Memref sig .tc .vmem S24x232x226 .f32) (harg9 : arg9.IsWhole) (arg10 : Memref sig .tc .vmem S24x226x226 .f32) (harg10 : arg10.IsWhole)
  (x0 : Vec Ideal S1x24x224x224 .f32) (xo1 : Vec Ideal S1x8x226x226 .f32) (xo2 : Vec Ideal S1x224x224 .f32)

theorem out_A_1 (hc0 : cond0_0 i) (hc1 : ¬cond0_1 i) (hc2 : ¬cond0_2 i) :
    out0_A_1 c i arg2 harg2 arg3 harg3 arg4 harg4 arg5 harg5 arg6 harg6 arg7 harg7 arg8 harg8 arg9 harg9 arg10 harg10 hc0 hc1 hc2 x0 = planes x0 := by
  funext j
  unfold out0_A_1
  rw [View.read_writes_junk_eq_canon]
  refine View.canon_apply_of_pieces _ _ ?_ j (cover0_A_1 c i arg2 harg2 arg3 harg3 arg4 harg4 arg5 harg5 arg6 harg6 arg7 harg7 arg8 harg8 arg9 harg9 arg10 harg10 hc0 hc1 hc2 x0 j)
  unfold kernelRun0_A
  dsimp only
  sl_unfold_words
  simp only [View.readCov_eq_canon', View.canon_unit_zero (S := S24x226x226) hz3, View.canon_unit_zero (S := S24x232x226) hz3, View.readAt_eq_ld, harg2.read_unread,
    View.ld_unit_zero (S := S1x24x224x224) hz4]
  simp only [List.forall_mem_cons, List.not_mem_nil, false_imp_iff, implies_true, and_true]
  refine ⟨fun x => ?_, fun x => ?_, fun x => ?_, fun x => ?_, fun x => ?_, fun x => ?_, fun x => ?_, fun x => ?_⟩
  all_goals
    pointwise [k0_pay3, k0_pay6, k0_pay7, k0_pay8, k0_pay9, k0_pay10, k0_pay11, k0_pay12, k0_pay1, k0_pay35, k0_pay36, k0_pay37, k0_pay38, k0_pay39, k0_pay40, k0_pay41, k0_pay42, k0_pay34, pay30_at, pay31_at, pay32_at, pay33_at]
    rw [emb_at]
    · simp [planes, plane, oy, ox]
    · decide

theorem out_A_2 (hc0 : cond0_0 i) (hc1 : ¬cond0_1 i) (hc2 : ¬cond0_2 i) :
    out0_A_2 c i arg2 harg2 arg3 harg3 arg4 harg4 arg5 harg5 arg6 harg6 arg7 harg7 arg8 harg8 arg9 harg9 arg10 harg10 hc0 hc1 hc2 x0 = fun j => sqn x0 (j 1) (j 2) := by
  unfold out0_A_2
  rw [View.read_writes_junk_eq_canon]
  unfold kernelRun0_A
  dsimp only
  sl_unfold_words
  rw [View.canon_unit_zero (S := S1x224x224) hz3]
  simp only [View.readAt_eq_ld, harg2.read_unread, harg4.read_unread, View.ld_unit_zero (S := S1x24x224x224) hz4, View.ld_unit_zero (S := S1x224x224) hz3]
  funext j
  pointwise [k0_pay4, k0_pay2, k0_pay28]
  rfl

theorem out_B_1 (hc0 : ¬cond0_0 i) (hc1 : cond0_1 i) (hc2 : ¬cond0_2 i) :
    out0_B_1 c i arg2 harg2 arg3 harg3 arg4 harg4 arg5 harg5 arg6 harg6 arg7 harg7 arg8 harg8 arg9 harg9 arg10 harg10 hc0 hc1 hc2 x0 xo1 xo2 = fun j => xo1 j + planes x0 j := by
  funext j
  unfold out0_B_1
  rw [View.read_writes_junk_eq_canon]
  refine View.canon_apply_of_pieces (fun j => xo1 j + planes x0 j) _ ?_ j (cover0_B_1 c i arg2 harg2 arg3 harg3 arg4 harg4 arg5 harg5 arg6 harg6 arg7 harg7 arg8 harg8 arg9 harg9 arg10 harg10 hc0 hc1 hc2 x0 xo1 xo2 j)
  unfold kernelRun0_B
  dsimp only
  sl_unfold_words
  simp only [View.readCov_eq_canon', View.canon_unit_zero (S := S24x226x226) hz3, View.canon_unit_zero (S := S24x232x226) hz3, View.readAt_eq_ld, harg2.read_unread, harg3.read_unread,
    View.ld_unit_zero (S := S1x24x224x224) hz4]
  simp only [List.forall_mem_cons, List.not_mem_nil, false_imp_iff, implies_true, and_true]
  refine ⟨fun x => ?_, fun x => ?_, fun x => ?_, fun x => ?_, fun x => ?_, fun x => ?_, fun x => ?_, fun x => ?_⟩
  all_goals
    pointwise [k0_pay13, k0_pay14, k0_pay15, k0_pay16, k0_pay17, k0_pay18, k0_pay19, k0_pay20, k0_pay1, k0_pay35, k0_pay36, k0_pay37, k0_pay38, k0_pay39, k0_pay40, k0_pay41, k0_pay42, k0_pay34, pay30_at, pay31_at, pay32_at, pay33_at]
    rw [emb_at]
    · simp [planes, plane, oy, ox]
    · decide

theorem out_B_2 (hc0 : ¬cond0_0 i) (hc1 : cond0_1 i) (hc2 : ¬cond0_2 i) :
    out0_B_2 c i arg2 harg2 arg3 harg3 arg4 harg4 arg5 harg5 arg6 harg6 arg7 harg7 arg8 harg8 arg9 harg9 arg10 harg10 hc0 hc1 hc2 x0 xo1 xo2 = fun j => xo2 j + sqn x0 (j 1) (j 2) := by
  unfold out0_B_2
  rw [View.read_writes_junk_eq_canon]
  unfold kernelRun0_B
  dsimp only
  sl_unfold_words
  rw [View.canon_unit_zero (S := S1x224x224) hz3]
  simp only [View.readAt_eq_ld, harg2.read_unread, harg4.read_unread, View.ld_unit_zero (S := S1x24x224x224) hz4, View.ld_unit_zero (S := S1x224x224) hz3]
  funext j
  pointwise [k0_pay5, k0_pay2, k0_pay28]
  rfl

theorem out_C_1 (hc0 : ¬cond0_0 i) (hc1 : cond0_1 i) (hc2 : cond0_2 i) :
    out0_C_1 c i arg2 harg2 arg3 harg3 arg4 harg4 arg5 harg5 arg6 harg6 arg7 harg7 arg8 harg8 arg9 harg9 arg10 harg10 hc0 hc1 hc2 x0 xo1 xo2 = fun j => xo1 j + planes x0 j := by
  funext j
  unfold out0_C_1
  rw [View.read_writes_junk_eq_canon]
  refine View.canon_apply_of_pieces (fun j => xo1 j + planes x0 j) _ ?_ j (cover0_C_1 c i arg2 harg2 arg3 harg3 arg4 harg4 arg5 harg5 arg6 harg6 arg7 harg7 arg8 harg8 arg9 harg9 arg10 harg10 hc0 hc1 hc2 x0 xo1 xo2 j)
  unfold kernelRun0_C
  dsimp only
  sl_unfold_words
  simp only [View.readCov_eq_canon', View.canon_unit_zero (S := S24x226x226) hz3, View.canon_unit_zero (S := S24x232x226) hz3, View.readAt_eq_ld, harg2.read_unread, harg3.read_unread,
    View.ld_unit_zero (S := S1x24x224x224) hz4]
  simp only [List.forall_mem_cons, List.not_mem_nil, false_imp_iff, implies_true, and_true]
  refine ⟨fun x => ?_, fun x => ?_, fun x => ?_, fun x => ?_, fun x => ?_, fun x => ?_, fun x => ?_, fun x => ?_⟩
  all_goals
    pointwise [k0_pay13, k0_pay14, k0_pay15, k0_pay16, k0_pay17, k0_pay18, k0_pay19, k0_pay20, k0_pay1, k0_pay35, k0_pay36, k0_pay37, k0_pay38, k0_pay39, k0_pay40, k0_pay41, k0_pay42, k0_pay34, pay30_at, pay31_at, pay32_at, pay33_at]
    rw [emb_at]
    · simp [planes, plane, oy, ox]
    · decide

theorem out_C_2 (hc0 : ¬cond0_0 i) (hc1 : cond0_1 i) (hc2 : cond0_2 i) :
    out0_C_2 c i arg2 harg2 arg3 harg3 arg4 harg4 arg5 harg5 arg6 harg6 arg7 harg7 arg8 harg8 arg9 harg9 arg10 harg10 hc0 hc1 hc2 x0 xo1 xo2 = fun j => xo2 j + sqn x0 (j 1) (j 2) := by
  unfold out0_C_2
  rw [View.read_writes_junk_eq_canon]
  unfold kernelRun0_C
  dsimp only
  sl_unfold_words
  rw [View.canon_unit_zero (S := S1x224x224) hz3]
  simp only [View.readAt_eq_ld, harg2.read_unread, harg4.read_unread, View.ld_unit_zero (S := S1x24x224x224) hz4, View.ld_unit_zero (S := S1x224x224) hz3]
  funext j
  pointwise [k0_pay5, k0_pay2, k0_pay28]
  rfl

section
include harg4 harg5 harg6 harg7 harg8 harg9 harg10 xo2
theorem canon_planes (hc0 : ¬cond0_0 i) (hc1 : cond0_1 i) (hc2 : cond0_2 i) :
    View.canon (kernelRun0_C.sl.H1_8 c arg2 harg2 arg3 harg3 arg6 arg7 arg8 arg9 arg10 x0 xo1) = fun j => xo1 j + planes x0 j := by
  have h := out_C_1 c i arg2 harg2 arg3 harg3 arg4 harg4 arg5 harg5 arg6 harg6 arg7 harg7 arg8 harg8 arg9 harg9 arg10 harg10 x0 xo1 xo2 hc0 hc1 hc2
  unfold out0_C_1 at h
  rw [View.read_writes_junk_eq_canon] at h
  exact h

/-- A plane of the cross products as it is read back. -/
theorem read_plane (hc0 : ¬cond0_0 i) (hc1 : cond0_1 i) (hc2 : cond0_2 i) (n : ℕ) (hn : n < 8) (inb) :
    arg3.view.readCov (kernelRun0_C.sl.H1_8 c arg2 harg2 arg3 harg3 arg6 arg7 arg8 arg9 arg10 x0 xo1)
        (Rect.unit (s := S1x8x226x226) ![0, n, 0, 0] ![1, 1, 226, 226] inb).toLoadRect
      = fun x => xo1 (ix4 0 ⟨n, hn⟩ (x 2) (x 3)) + planes x0 (ix4 0 ⟨n, hn⟩ (x 2) (x 3)) := by
  rw [View.readCov_eq_canon', canon_planes c i arg2 harg2 arg3 harg3 arg4 harg4 arg5 harg5 arg6 harg6 arg7 harg7 arg8 harg8 arg9 harg9 arg10 harg10 x0 xo1 xo2 hc0 hc1 hc2]
  funext x
  show (fun j => xo1 j + planes x0 j) ((Rect.unit (s := S1x8x226x226) ![0, n, 0, 0] ![1, 1, 226, 226] inb).emb x) = _
  rw [emb_at n hn]
  rfl
end

theorem read_sq :
    kernelRun0_C.sl.v67 c arg2 harg2 arg4 harg4 x0 xo2 = fun j => xo2 j + sqn x0 (j 1) (j 2) := by
  unfold kernelRun0_C.sl.v67
  sl_unfold_words
  simp only [View.readCov_eq_canon', View.canon_unit_zero (S := S1x224x224) hz3, View.readAt_eq_ld, harg2.read_unread, harg4.read_unread, View.ld_unit_zero (S := S1x24x224x224) hz4, View.ld_unit_zero (S := S1x224x224) hz3]
  funext j
  pointwise [k0_pay5, k0_pay2, k0_pay28]
  rfl

/-- The plane of offset `k`, out of the eight. -/
def planeOf (p : Vec Ideal S1x8x226x226 .f32) (k : Fin 8) : Vec Ideal S1x1x226x226 .f32 := fun x => p (ix4 0 k (x 2) (x 3))

theorem out_C_3 (hc0 : ¬cond0_0 i) (hc1 : cond0_1 i) (hc2 : cond0_2 i) :
    out0_C_3 c i arg2 harg2 arg3 harg3 arg4 harg4 arg5 harg5 arg6 harg6 arg7 harg7 arg8 harg8 arg9 harg9 arg10 harg10 hc0 hc1 hc2 x0 xo1 xo2
      = fun _ => total (fun j => xo2 j + sqn x0 (j 1) (j 2)) (planeOf fun j => xo1 j + planes x0 j) := by
  unfold out0_C_3
  rw [View.read_writes_junk_eq_canon]
  unfold kernelRun0_C
  dsimp only
  rw [View.canon_unit_zero (S := S1x1x1) hz3]
  unfold kernelRun0_C.sl.r_14 kernelRun0_C.sl.r_12 kernelRun0_C.sl.r_13 kernelRun0_C.sl.r_11 kernelRun0_C.sl.r_10
  rw [read_sq]
  have h := read_plane c i arg2 harg2 arg3 harg3 arg4 harg4 arg5 harg5 arg6 harg6 arg7 harg7 arg8 harg8 arg9 harg9 arg10 harg10 x0 xo1 xo2 hc0 hc1 hc2
  rw [show kernelRun0_C.sl.v100 c arg2 harg2 arg3 harg3 arg6 arg7 arg8 arg9 arg10 x0 xo1 = planeOf (fun j => xo1 j + planes x0 j) 0 from h 0 (by decide) _]
  rw [show kernelRun0_C.sl.v109_1 c arg2 harg2 arg3 harg3 arg6 arg7 arg8 arg9 arg10 x0 xo1 = planeOf (fun j => xo1 j + planes x0 j) 1 from h 1 (by decide) _]
  rw [show kernelRun0_C.sl.v119 c arg2 harg2 arg3 harg3 arg6 arg7 arg8 arg9 arg10 x0 xo1 = planeOf (fun j => xo1 j + planes x0 j) 2 from h 2 (by decide) _]
  rw [show kernelRun0_C.sl.v129 c arg2 harg2 arg3 harg3 arg6 arg7 arg8 arg9 arg10 x0 xo1 = planeOf (fun j => xo1 j + planes x0 j) 3 from h 3 (by decide) _]
  rw [show kernelRun0_C.sl.v139 c arg2 harg2 arg3 harg3 arg6 arg7 arg8 arg9 arg10 x0 xo1 = planeOf (fun j => xo1 j + planes x0 j) 4 from h 4 (by decide) _]
  rw [show kernelRun0_C.sl.v149 c arg2 harg2 arg3 harg3 arg6 arg7 arg8 arg9 arg10 x0 xo1 = planeOf (fun j => xo1 j + planes x0 j) 5 from h 5 (by decide) _]
  rw [show kernelRun0_C.sl.v159 c arg2 harg2 arg3 harg3 arg6 arg7 arg8 arg9 arg10 x0 xo1 = planeOf (fun j => xo1 j + planes x0 j) 6 from h 6 (by decide) _]
  rw [show kernelRun0_C.sl.v169 c arg2 harg2 arg3 harg3 arg6 arg7 arg8 arg9 arg10 x0 xo1 = planeOf (fun j => xo1 j + planes x0 j) 7 from h 7 (by decide) _]
  exact funext (pay27_at (fun j => xo2 j + sqn x0 (j 1) (j 2)) (planeOf fun j => xo1 j + planes x0 j))
end
end Cert.KernelIdeal.R0
-- ==== Proof.R0.Arrays.lean ====
/- The first call's three result arrays, as functions of the image it reads. -/
module

public import proofs.«01_k».proof.Proof.R0.Value
public import Idealize.ShloMosaic.Lib.Pipeline.ValueKit
public import Idealize.ShloMosaic.Lib.Pointwise

@[expose] public section

set_option maxRecDepth 16384

noncomputable section

namespace Cert.KernelIdeal.R0

open Cert.KernelIdeal.Gen Cert.KernelIdeal.Val
open Idealize.ShloMosaic Idealize.ShloMosaic.TcCoe Idealize.ShloMosaic.Tactic

/-- Channels `24 q … 24 q + 23` of image `b`. -/
def chunk (X : Vec Ideal S4x96x224x224 .f32) (b q : ℕ) (hb : b < 4) (hq : q < 4) : Vec Ideal S1x24x224x224 .f32 :=
  fun j => X (ix4 ⟨b, hb⟩ ⟨24 * q + (j 1).val, by have : (j 1).val < 24 := (j 1).isLt; omega⟩ (j 2) (j 3))

/-- Where each window of the first call sits at a grid point. -/
theorem idx : ∀ t : Fin cfg0.N, win0_0.index t = ![t.val / 4, t.val % 4, 0, 0] ∧ win0_1.index t = ![t.val / 4, 0, 0, 0]
    ∧ win0_2.index t = ![t.val / 4, 0, 0] ∧ win0_3.index t = ![t.val / 4, 0, 0] :=
  (by decide +kernel : ∀ t : Fin grid0.N, _)

variable (m : (ℓ : Loc nD τ sig) → Buf (Elt Ideal) ℓ)

theorem iblk_eq (c : Dev nD) (t : Fin cfg0.N) (b q : ℕ) (hb : b < 4) (hq : q < 4) (ht : t.val = 4 * b + q) :
    iblk m c 0 t = chunk (m ((c : Thread nD τ).loc main_arg0)) b q hb hq := by
  funext x
  unfold chunk
  have e := (idx t).1
  rw [show t.val / 4 = b by omega, show t.val % 4 = q by omega] at e
  blk_ext [iblk, V, e]

/-- The cross products summed over the first `24 (q + 1)` channels of image `b`. -/
def crossTo (X : Vec Ideal S4x96x224x224 .f32) (b : ℕ) (hb : b < 4) : (q : ℕ) → q < 4 → Vec Ideal S1x8x226x226 .f32
  | 0, hq => planes (chunk X b 0 hb hq)
  | q + 1, hq => fun j => crossTo X b hb q (by omega) j + planes (chunk X b (q + 1) hb hq) j

/-- The squared lengths over the first `24 (q + 1)` channels of image `b`. -/
def sqTo (X : Vec Ideal S4x96x224x224 .f32) (b : ℕ) (hb : b < 4) : (q : ℕ) → q < 4 → Vec Ideal S1x224x224 .f32
  | 0, hq => fun j => sqn (chunk X b 0 hb hq) (j 1) (j 2)
  | q + 1, hq => fun j => sqTo X b hb q (by omega) j + sqn (chunk X b (q + 1) hb hq) (j 1) (j 2)

/-- What the buffers hold after chunk `q` of image `b`. -/
theorem outs_at (c : Dev nD) (b : ℕ) (hb : b < 4) : ∀ (q : ℕ) (hq : q < 4) (n : ℕ) (hn : n < cfg0.N), n = 4 * b + q →
    (outsAt0 m c n hn).1 = crossTo (m ((c : Thread nD τ).loc main_arg0)) b hb q hq
      ∧ (outsAt0 m c n hn).2.1 = sqTo (m ((c : Thread nD τ).loc main_arg0)) b hb q hq
  | 0, hq, n, hn, e => by
    rw [outsAt0_A m c ⟨n, hn⟩ (by show n % 4 = 0; omega) (by show ¬1 ≤ n % 4; omega) (by show ¬n % 4 = 3; omega)]
    dsimp only
    rw [out_A_1, out_A_2, iblk_eq m c ⟨n, hn⟩ b 0 hb hq e]
    exact ⟨rfl, rfl⟩
  | q + 1, hq, n, hn, e => by
    have ih := outs_at c b hb q (by omega) (n - 1) (by omega) (by omega)
    by_cases h : n % 4 = 3
    · rw [outsAt0_C m c ⟨n, hn⟩ (by show ¬n % 4 = 0; omega) (by show 1 ≤ n % 4; omega) h]
      dsimp only
      rw [out_C_1, out_C_2, iblk_eq m c ⟨n, hn⟩ b (q + 1) hb hq e, ih.1, ih.2]
      exact ⟨rfl, rfl⟩
    · rw [outsAt0_B m c ⟨n, hn⟩ (by show ¬n % 4 = 0; omega) (by show 1 ≤ n % 4; omega) h]
      dsimp only
      rw [out_B_1, out_B_2, iblk_eq m c ⟨n, hn⟩ b (q + 1) hb hq e, ih.1, ih.2]
      exact ⟨rfl, rfl⟩

/-- The sum stored after the last chunk of image `b`. -/
theorem sum_at (c : Dev nD) (b : ℕ) (hb : b < 4) (n : ℕ) (hn : n < cfg0.N) (e : n = 4 * b + 3) :
    (outsAt0 m c n hn).2.2 = fun _ => total (sqTo (m ((c : Thread nD τ).loc main_arg0)) b hb 3 (by decide))
      (planeOf (crossTo (m ((c : Thread nD τ).loc main_arg0)) b hb 3 (by decide))) := by
  have ih := outs_at m c b hb 2 (by decide) (n - 1) (by omega) (by omega)
  rw [outsAt0_C m c ⟨n, hn⟩ (by show ¬n % 4 = 0; omega) (by show 1 ≤ n % 4; omega) (by show n % 4 = 3; omega)]
  dsimp only
  rw [out_C_3, iblk_eq m c ⟨n, hn⟩ b 3 hb (by decide) e, ih.1, ih.2]
  rfl

/-- The whole array of cross products. -/
def cross (X : Vec Ideal S4x96x224x224 .f32) : Vec Ideal S4x8x226x226 .f32 :=
  fun j => crossTo X (j 0).val (j 0).isLt 3 (by decide) (ix4 0 (j 1) (j 2) (j 3))

/-- The whole array of squared lengths. -/
def sq (X : Vec Ideal S4x96x224x224 .f32) : Vec Ideal S4x224x224 .f32 :=
  fun j => sqTo X (j 0).val (j 0).isLt 3 (by decide) (ix3 0 (j 1) (j 2))

/-- The four sums. -/
def gsum (X : Vec Ideal S4x96x224x224 .f32) : Vec Ideal S4x1x1 .f32 :=
  fun j => total (sqTo X (j 0).val (j 0).isLt 3 (by decide)) (planeOf (crossTo X (j 0).val (j 0).isLt 3 (by decide)))

theorem arr_cross (c : Dev nD) : (dats m c).arrAt 1 cfg0.N = cross (m ((c : Thread nD τ).loc main_arg0)) := by
  refine (dats m c).arrAt_eq_of_covers 1 _ (by decide +kernel) fun t hf y => ?_
  have h3 := (flush0_1 t).mp hf
  have hN : t.val < 16 := lt_of_lt_of_eq t.isLt (show cfg0.N = 16 from N_0)
  have hb : t.val / 4 < 4 := by omega
  blk_simp
  rw [after0_1, (outs_at m c (t.val / 4) hb 3 (by decide) t.val t.isLt (by omega)).1]
  have e := (idx t).2.1
  refine Eq.trans ?_ (congrArg (cross (m ((c : Thread nD τ).loc main_arg0))) (?_ : ix4 ⟨t.val / 4, hb⟩ (y 1) (y 2) (y 3) = _))
  · exact congrArg _ (by blk_ext : _ = ix4 0 (y 1) (y 2) (y 3))
  · blk_ext [e]

theorem arr_sq (c : Dev nD) : (dats m c).arrAt 2 cfg0.N = sq (m ((c : Thread nD τ).loc main_arg0)) := by
  refine (dats m c).arrAt_eq_of_covers 2 _ (by decide +kernel) fun t hf y => ?_
  have h3 := (flush0_2 t).mp hf
  have hN : t.val < 16 := lt_of_lt_of_eq t.isLt (show cfg0.N = 16 from N_0)
  have hb : t.val / 4 < 4 := by omega
  blk_simp
  rw [after0_2, (outs_at m c (t.val / 4) hb 3 (by decide) t.val t.isLt (by omega)).2]
  have e := (idx t).2.2.1
  refine Eq.trans ?_ (congrArg (sq (m ((c : Thread nD τ).loc main_arg0))) (?_ : ix3 ⟨t.val / 4, hb⟩ (y 1) (y 2) = _))
  · exact congrArg _ (by blk_ext : _ = ix3 0 (y 1) (y 2))
  · blk_ext [e]

theorem arr_gsum (c : Dev nD) : (dats m c).arrAt 3 cfg0.N = gsum (m ((c : Thread nD τ).loc main_arg0)) := by
  refine (dats m c).arrAt_eq_of_covers 3 _ (by decide +kernel) fun t hf y => ?_
  have h3 := (flush0_3 t).mp hf
  have hN : t.val < 16 := lt_of_lt_of_eq t.isLt (show cfg0.N = 16 from N_0)
  have hb : t.val / 4 < 4 := by omega
  blk_simp
  rw [after0_3, sum_at m c (t.val / 4) hb t.val t.isLt (by omega)]
  have e := (idx t).2.2.2
  refine Eq.trans ?_ (congrArg (gsum (m ((c : Thread nD τ).loc main_arg0))) (?_ : ix3 ⟨t.val / 4, hb⟩ 0 0 = _))
  · rfl
  · blk_ext [e]
end Cert.KernelIdeal.R0
-- ==== Proof.R1.Runs.lean ====
/- What the cases of the second call share: the blocks its input windows hold, the branch conditions of the body in closed form,
   where its windows are idle, and the memrefs it works on. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the call starts with -/

/-- Core `c`'s buffers when the call starts. -/
abbrev V (c : Dev nD) (b : Ref sig .tc) : Buf (Elt F) ((c : Thread nD τ).loc b) := m ((c : Thread nD τ).loc b)

/-! ## The windows' blocks -/

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (V m c (Pipeline.arrRef spec1 w))

/-- Input window 0's buffer holds its block at every point, fetched there or not. -/
theorem before1_0_of {c : Dev nD} (dat : Dat τ (Elt F) Unit ℕ (UR sig nD τ) ℕ cfg1 c) (hA : dat.A 0 = V m c (Pipeline.arrRef spec1 0))
    (hafter : ∀ t, dat.after 0 t = iblk m c 0 t) (t : Fin cfg1.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, fetched there or not. -/
theorem before1_1_of {c : Dev nD} (dat : Dat τ (Elt F) Unit ℕ (UR sig nD τ) ℕ cfg1 c) (hA : dat.A 1 = V m c (Pipeline.arrRef spec1 1))
    (hafter : ∀ t, dat.after 1 t = iblk m c 1 t) (t : Fin cfg1.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, fetched there or not. -/
theorem before1_2_of {c : Dev nD} (dat : Dat τ (Elt F) Unit ℕ (UR sig nD τ) ℕ cfg1 c) (hA : dat.A 2 = V m c (Pipeline.arrRef spec1 2))
    (hafter : ∀ t, dat.after 2 t = iblk m c 2 t) (t : Fin cfg1.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, fetched there or not. -/
theorem before1_3_of {c : Dev nD} (dat : Dat τ (Elt F) Unit ℕ (UR sig nD τ) ℕ cfg1 c) (hA : dat.A 3 = V m c (Pipeline.arrRef spec1 3))
    (hafter : ∀ t, dat.after 3 t = iblk m c 3 t) (t : Fin cfg1.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's branch 0. -/
abbrev cond1_0 (i : grid1.Coords) : Prop := (Scalar.cmpi .ne (Scalar.extui (Scalar.cmpi .eq (BitVec.ofNat 32 (i 1).val) 0#32)) 0#32) = 1#1
/-- It holds at the first chunk of an image. -/
theorem hcond1_0 : ∀ t : Fin cfg1.N, cond1_0 (grid1.coords t) ↔ t.val % 3 = 0 :=
  (fun t => by
    have ht : t.val < 12 := Nat.lt_of_lt_of_eq t.isLt N_1
    have e0 : (grid1.coords t 0).val = t.val / 3 % 4 := Pipeline.Grid.coords_val t 0 (by decide) rfl
    have e1 : (grid1.coords t 1).val = t.val / 1 % 3 := Pipeline.Grid.coords_val t 1 (by decide) rfl
    simp only [cond1_0, e0, e1]
    word_cmp
   : ∀ t : Fin grid1.N, cond1_0 (grid1.coords t) ↔ t.val % 3 = 0)

/-! ## The kernel body on any staging memrefs -/

/-- One buffer of output 4, through which its contents are stated. -/
abbrev VO1_4 : View sig .tc .vmem S1x32x224x224 .f32 := (Memref.whole cc1_stg4_0 : Memref sig .tc .vmem S1x32x224x224 .f32).view
/-- Each window's buffer at point `t`, whole. -/
abbrev ms1_0 (t : Fin cfg1.N) : Memref sig .tc .vmem S1x8x226x226 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x224x224 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x32x224x224 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x32x224x224 .f32 := win1_4.stage (cfg1.slots t 4)
abbrev hs1_4 (t : Fin cfg1.N) : (ms1_4 t).IsWhole := hstage1_4 ((cfg1.slots t 4).cast nbuf1_4)
/-- The kernel's own scratch buffers, whole. -/
abbrev scM1_0 : Memref sig .tc .vmem S224x224 .f32 := Memref.whole cc1_scratch0
/-- The kept mask, as a view. -/
abbrev VS1_0 : View sig .tc .vmem S224x224 .f32 := scM1_0.view

/-- What the call leaves alone: the other call's buffers and the random-number register. -/
def Gs (c : Dev nD) : sProp 𝕄 :=
  iprop(Pipeline.scopedRestBut spec1 c [cc1_scratch0] ∗ (∃ r, prngReg c r))

/-- The call's invariant: its scratch buffers at some contents beside what it leaves alone. -/
theorem PhiA1_eq (c : Dev nD) :
    (Pipeline.ΦA spec1 c : sProp 𝕄) = iprop((∃ d, owns (c : Thread nD τ) scM1_0 fullShare d) ∗ Gs c) := by
  unfold Pipeline.ΦA Gs
  rw [Pipeline.scopedRest_split_of_list spec1 c [cc1_scratch0] (by decide) (by decide)]
  refine (Entails.antisymm BI.sep_assoc BI.sep_assoc').trans ?_
  simp only [scM1_0, owns_whole]
  rfl

end Cert.KernelIdeal.R1

end
-- ==== Proof.R1.RunA.lean ====
/- The second call, case A: one execution of the body. -/
module

public import proofs.«01_k».proof.Proof.R1.Runs

@[expose] public section

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the stores of case A leave in each buffer, with the proof that the body runs and leaves it. -/
noncomputable def kernelRun1_A (c : Dev nD) (i : grid1.Coords) (arg2 : Memref sig .tc .vmem S1x8x226x226 .f32) (harg2 : arg2.IsWhole) (arg3 : Memref sig .tc .vmem S1x224x224 .f32) (harg3 : arg3.IsWhole) (arg4 : Memref sig .tc .vmem S4x1x1 .f32) (harg4 : arg4.IsWhole) (arg5 : Memref sig .tc .vmem S1x32x224x224 .f32) (harg5 : arg5.IsWhole) (arg6 : Memref sig .tc .vmem S1x32x224x224 .f32) (harg6 : arg6.IsWhole) (arg7 : Memref sig .tc .vmem S224x224 .f32) (harg7 : arg7.IsWhole) (hc0 : cond1_0 i)
    (x0 : Vec F S1x8x226x226 .f32) (x1 : Vec F S1x224x224 .f32) (x2 : Vec F S4x1x1 .f32) (x3 : Vec F S1x32x224x224 .f32) :
    Σ' (L4 : List (View.Piece (Elt F) S1x32x224x224 .f32)), { LS0 : List (View.Piece (Elt F) S224x224 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__pass23_body i arg2 harg2 arg3 harg3 arg4 harg4 arg5 harg5 arg6 harg6 arg7 harg7) K } := by
  refine ⟨?_, ?_, fun E K => ?run⟩
  case run =>
    simp only [cc1__pass23_body_eq_skeleton]; unfold cc1__pass23_body_skel
    simp only [k1_part5_eq_skeleton, k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.R1

end
-- ==== Proof.R1.RunB.lean ====
/- The second call, case B: one execution of the body. -/
module

public import proofs.«01_k».proof.Proof.R1.RunA

@[expose] public section

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the stores of case B leave in each buffer, with the proof that the body runs and leaves it. -/
noncomputable def kernelRun1_B (c : Dev nD) (i : grid1.Coords) (arg2 : Memref sig .tc .vmem S1x8x226x226 .f32) (harg2 : arg2.IsWhole) (arg3 : Memref sig .tc .vmem S1x224x224 .f32) (harg3 : arg3.IsWhole) (arg4 : Memref sig .tc .vmem S4x1x1 .f32) (harg4 : arg4.IsWhole) (arg5 : Memref sig .tc .vmem S1x32x224x224 .f32) (harg5 : arg5.IsWhole) (arg6 : Memref sig .tc .vmem S1x32x224x224 .f32) (harg6 : arg6.IsWhole) (arg7 : Memref sig .tc .vmem S224x224 .f32) (harg7 : arg7.IsWhole) (hc0 : ¬cond1_0 i)
    (x0 : Vec F S1x8x226x226 .f32) (x1 : Vec F S1x224x224 .f32) (x2 : Vec F S4x1x1 .f32) (x3 : Vec F S1x32x224x224 .f32) (xs0 : Vec F S224x224 .f32) :
    Σ' (L4 : List (View.Piece (Elt F) S1x32x224x224 .f32)), { LS0 : List (View.Piece (Elt F) S224x224 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0) -∗ K ⟨⟩))
          ⊢ wp frame (wpE (defs₀ (F := F)) Variants.none c none) E (cc1__pass23_body i arg2 harg2 arg3 harg3 arg4 harg4 arg5 harg5 arg6 harg6 arg7 harg7) K } := by
  refine ⟨?_, [], fun E K => ?run⟩
  case run =>
    simp only [cc1__pass23_body_eq_skeleton]; unfold cc1__pass23_body_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS0

end Cert.KernelIdeal.R1

end
-- ==== Proof.R1.Body.lean ====
/- The second call: what the body leaves at every grid point, the proof data, and the body obligation. -/
module

public import proofs.«01_k».proof.Proof.R1.RunB
public import Idealize.ShloMosaic.Lib.Pipeline.Frame

@[expose] public section

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The stores of case A into output 4 cover its block. -/
theorem cover1_A_4 (c : Dev nD) (i : grid1.Coords) (arg2 : Memref sig .tc .vmem S1x8x226x226 .f32) (harg2 : arg2.IsWhole) (arg3 : Memref sig .tc .vmem S1x224x224 .f32) (harg3 : arg3.IsWhole) (arg4 : Memref sig .tc .vmem S4x1x1 .f32) (harg4 : arg4.IsWhole) (arg5 : Memref sig .tc .vmem S1x32x224x224 .f32) (harg5 : arg5.IsWhole) (arg6 : Memref sig .tc .vmem S1x32x224x224 .f32) (harg6 : arg6.IsWhole) (arg7 : Memref sig .tc .vmem S224x224 .f32) (harg7 : arg7.IsWhole) (hc0 : cond1_0 i)
    (x0 : Vec F S1x8x226x226 .f32) (x1 : Vec F S1x224x224 .f32) (x2 : Vec F S4x1x1 .f32) (x3 : Vec F S1x32x224x224 .f32) (y : S1x32x224x224.Idx) :
    ∃ pc ∈ (kernelRun1_A c i arg2 harg2 arg3 harg3 arg4 harg4 arg5 harg5 arg6 harg6 arg7 harg7 hc0 x0 x1 x2 x3).1, y ∈ pc.1.set :=
  View.cover_of_tiledL (kernelRun1_A c i arg2 harg2 arg3 harg3 arg4 harg4 arg5 harg5 arg6 harg6 arg7 harg7 hc0 x0 x1 x2 x3).1 S1x32x224x224.size (by sl_kernel_rfl) y

/-- What case A leaves in output 4's buffer. -/
def out1_A_4 (c : Dev nD) (i : grid1.Coords) (arg2 : Memref sig .tc .vmem S1x8x226x226 .f32) (harg2 : arg2.IsWhole) (arg3 : Memref sig .tc .vmem S1x224x224 .f32) (harg3 : arg3.IsWhole) (arg4 : Memref sig .tc .vmem S4x1x1 .f32) (harg4 : arg4.IsWhole) (arg5 : Memref sig .tc .vmem S1x32x224x224 .f32) (harg5 : arg5.IsWhole) (arg6 : Memref sig .tc .vmem S1x32x224x224 .f32) (harg6 : arg6.IsWhole) (arg7 : Memref sig .tc .vmem S224x224 .f32) (harg7 : arg7.IsWhole) (hc0 : cond1_0 i)
    (x0 : Vec F S1x8x226x226 .f32) (x1 : Vec F S1x224x224 .f32) (x2 : Vec F S4x1x1 .f32) (x3 : Vec F S1x32x224x224 .f32) : Vec F S1x32x224x224 .f32 :=
  VO1_4.read (Elt F) (VO1_4.writes (Elt F) VO1_4.junk (kernelRun1_A c i arg2 harg2 arg3 harg3 arg4 harg4 arg5 harg5 arg6 harg6 arg7 harg7 hc0 x0 x1 x2 x3).1)

/-- The stores of case A into the kept mask cover it. -/
theorem scover1_A_0 (c : Dev nD) (i : grid1.Coords) (arg2 : Memref sig .tc .vmem S1x8x226x226 .f32) (harg2 : arg2.IsWhole) (arg3 : Memref sig .tc .vmem S1x224x224 .f32) (harg3 : arg3.IsWhole) (arg4 : Memref sig .tc .vmem S4x1x1 .f32) (harg4 : arg4.IsWhole) (arg5 : Memref sig .tc .vmem S1x32x224x224 .f32) (harg5 : arg5.IsWhole) (arg6 : Memref sig .tc .vmem S1x32x224x224 .f32) (harg6 : arg6.IsWhole) (arg7 : Memref sig .tc .vmem S224x224 .f32) (harg7 : arg7.IsWhole) (hc0 : cond1_0 i)
    (x0 : Vec F S1x8x226x226 .f32) (x1 : Vec F S1x224x224 .f32) (x2 : Vec F S4x1x1 .f32) (x3 : Vec F S1x32x224x224 .f32) (y : S224x224.Idx) :
    ∃ pc ∈ (kernelRun1_A c i arg2 harg2 arg3 harg3 arg4 harg4 arg5 harg5 arg6 harg6 arg7 harg7 hc0 x0 x1 x2 x3).2.1, y ∈ pc.1.set :=
  View.cover_of_tiledL (kernelRun1_A c i arg2 harg2 arg3 harg3 arg4 harg4 arg5 harg5 arg6 harg6 arg7 harg7 hc0 x0 x1 x2 x3).2.1 S224x224.size (by sl_kernel_rfl) y

/-- What case A leaves in the kept mask. -/
def sout1_A_0 (c : Dev nD) (i : grid1.Coords) (arg2 : Memref sig .tc .vmem S1x8x226x226 .f32) (harg2 : arg2.IsWhole) (arg3 : Memref sig .tc .vmem S1x224x224 .f32) (harg3 : arg3.IsWhole) (arg4 : Memref sig .tc .vmem S4x1x1 .f32) (harg4 : arg4.IsWhole) (arg5 : Memref sig .tc .vmem S1x32x224x224 .f32) (harg5 : arg5.IsWhole) (arg6 : Memref sig .tc .vmem S1x32x224x224 .f32) (harg6 : arg6.IsWhole) (arg7 : Memref sig .tc .vmem S224x224 .f32) (harg7 : arg7.IsWhole) (hc0 : cond1_0 i)
    (x0 : Vec F S1x8x226x226 .f32) (x1 : Vec F S1x224x224 .f32) (x2 : Vec F S4x1x1 .f32) (x3 : Vec F S1x32x224x224 .f32) : Vec F S224x224 .f32 :=
  VS1_0.read (Elt F) (VS1_0.writes (Elt F) VS1_0.junk (kernelRun1_A c i arg2 harg2 arg3 harg3 arg4 harg4 arg5 harg5 arg6 harg6 arg7 harg7 hc0 x0 x1 x2 x3).2.1)

/-- The stores of case B into output 4 cover its block. -/
theorem cover1_B_4 (c : Dev nD) (i : grid1.Coords) (arg2 : Memref sig .tc .vmem S1x8x226x226 .f32) (harg2 : arg2.IsWhole) (arg3 : Memref sig .tc .vmem S1x224x224 .f32) (harg3 : arg3.IsWhole) (arg4 : Memref sig .tc .vmem S4x1x1 .f32) (harg4 : arg4.IsWhole) (arg5 : Memref sig .tc .vmem S1x32x224x224 .f32) (harg5 : arg5.IsWhole) (arg6 : Memref sig .tc .vmem S1x32x224x224 .f32) (harg6 : arg6.IsWhole) (arg7 : Memref sig .tc .vmem S224x224 .f32) (harg7 : arg7.IsWhole) (hc0 : ¬cond1_0 i)
    (x0 : Vec F S1x8x226x226 .f32) (x1 : Vec F S1x224x224 .f32) (x2 : Vec F S4x1x1 .f32) (x3 : Vec F S1x32x224x224 .f32) (xs0 : Vec F S224x224 .f32) (y : S1x32x224x224.Idx) :
    ∃ pc ∈ (kernelRun1_B c i arg2 harg2 arg3 harg3 arg4 harg4 arg5 harg5 arg6 harg6 arg7 harg7 hc0 x0 x1 x2 x3 xs0).1, y ∈ pc.1.set :=
  View.cover_of_tiledL (kernelRun1_B c i arg2 harg2 arg3 harg3 arg4 harg4 arg5 harg5 arg6 harg6 arg7 harg7 hc0 x0 x1 x2 x3 xs0).1 S1x32x224x224.size (by sl_kernel_rfl) y

/-- What case B leaves in output 4's buffer. -/
def out1_B_4 (c : Dev nD) (i : grid1.Coords) (arg2 : Memref sig .tc .vmem S1x8x226x226 .f32) (harg2 : arg2.IsWhole) (arg3 : Memref sig .tc .vmem S1x224x224 .f32) (harg3 : arg3.IsWhole) (arg4 : Memref sig .tc .vmem S4x1x1 .f32) (harg4 : arg4.IsWhole) (arg5 : Memref sig .tc .vmem S1x32x224x224 .f32) (harg5 : arg5.IsWhole) (arg6 : Memref sig .tc .vmem S1x32x224x224 .f32) (harg6 : arg6.IsWhole) (arg7 : Memref sig .tc .vmem S224x224 .f32) (harg7 : arg7.IsWhole) (hc0 : ¬cond1_0 i)
    (x0 : Vec F S1x8x226x226 .f32) (x1 : Vec F S1x224x224 .f32) (x2 : Vec F S4x1x1 .f32) (x3 : Vec F S1x32x224x224 .f32) (xs0 : Vec F S224x224 .f32) : Vec F S1x32x224x224 .f32 :=
  VO1_4.read (Elt F) (VO1_4.writes (Elt F) VO1_4.junk (kernelRun1_B c i arg2 harg2 arg3 harg3 arg4 harg4 arg5 harg5 arg6 harg6 arg7 harg7 hc0 x0 x1 x2 x3 xs0).1)

/-- Case B leaves the kept mask as it was. -/
def sout1_B_0 (c : Dev nD) (i : grid1.Coords) (arg2 : Memref sig .tc .vmem S1x8x226x226 .f32) (harg2 : arg2.IsWhole) (arg3 : Memref sig .tc .vmem S1x224x224 .f32) (harg3 : arg3.IsWhole) (arg4 : Memref sig .tc .vmem S4x1x1 .f32) (harg4 : arg4.IsWhole) (arg5 : Memref sig .tc .vmem S1x32x224x224 .f32) (harg5 : arg5.IsWhole) (arg6 : Memref sig .tc .vmem S1x32x224x224 .f32) (harg6 : arg6.IsWhole) (arg7 : Memref sig .tc .vmem S224x224 .f32) (harg7 : arg7.IsWhole) (hc0 : ¬cond1_0 i)
    (x0 : Vec F S1x8x226x226 .f32) (x1 : Vec F S1x224x224 .f32) (x2 : Vec F S4x1x1 .f32) (x3 : Vec F S1x32x224x224 .f32) (xs0 : Vec F S224x224 .f32) : Vec F S224x224 .f32 := xs0

/-! ## What the outputs hold after each point -/

/-- What the output buffer and the kept mask hold after point `n`, by the case the point is in. -/
def outsAt1 (c : Dev nD) : (n : ℕ) → n < cfg1.N → Vec F S1x32x224x224 .f32 × Vec F S224x224 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk m c 0 ⟨0, hn⟩) (iblk m c 1 ⟨0, hn⟩) (iblk m c 2 ⟨0, hn⟩) (iblk m c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 3 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk m c 0 ⟨n + 1, hn⟩) (iblk m c 1 ⟨n + 1, hn⟩) (iblk m c 2 ⟨n + 1, hn⟩) (iblk m c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk m c 0 ⟨n + 1, hn⟩) (iblk m c 1 ⟨n + 1, hn⟩) (iblk m c 2 ⟨n + 1, hn⟩) (iblk m c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk m c 0 ⟨n + 1, hn⟩) (iblk m c 1 ⟨n + 1, hn⟩) (iblk m c 2 ⟨n + 1, hn⟩) (iblk m c 3 ⟨n + 1, hn⟩) (outsAt1 c n (Nat.lt_of_succ_lt hn)).2)

/-- `outsAt1` at a point of case A. -/
theorem outsAt1_A (c : Dev nD) (t : Fin cfg1.N) (h0 : t.val % 3 = 0) :
    outsAt1 m c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk m c 0 t) (iblk m c 1 t) (iblk m c 2 t) (iblk m c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt1` at a point of case B. -/
theorem outsAt1_B (c : Dev nD) (t : Fin cfg1.N) (h0 : ¬t.val % 3 = 0) :
    outsAt1 m c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk m c 0 t) (iblk m c 1 t) (iblk m c 2 t) (iblk m c 3 t) (outsAt1 m c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk m c 0 t) (iblk m c 1 t) (iblk m c 2 t) (iblk m c 3 t) (outsAt1 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- What is kept between points: before the first point the kept mask holds anything, afterwards what the point before left. -/
def PhiS (c : Dev nD) : (n : ℕ) → n ≤ cfg1.N → sProp 𝕄
  | 0, _ => Pipeline.ΦA spec1 c
  | n + 1, hn => iprop(iprop(owns (c : Thread nD τ) scM1_0 fullShare ((outsAt1 m c n hn).2)) ∗ Gs c)

theorem PhiS_zero (c : Dev nD) (n : ℕ) (h : n ≤ cfg1.N) (hz : n = 0) : PhiS m c n h = Pipeline.ΦA spec1 c := by
  subst hz; rfl

/-- After point `n` the kept mask holds what that point left. -/
theorem PhiS_succ (c : Dev nD) (n : ℕ) (hn : n < cfg1.N) :
    PhiS m c (n + 1) hn = iprop(iprop(owns (c : Thread nD τ) scM1_0 fullShare ((outsAt1 m c n hn).2)) ∗ Gs c) := rfl

/-- Before a later point the kept mask holds what the point before left. -/
theorem PhiS_pos (c : Dev nD) (n : ℕ) (h : n ≤ cfg1.N) (hz : n ≠ 0) :
    PhiS m c n h = iprop(iprop(owns (c : Thread nD τ) scM1_0 fullShare ((outsAt1 m c (n - 1) (by omega)).2)) ∗ Gs c) := by
  cases n with
  | zero => exact absurd rfl hz
  | succ n => rfl

/-! ## The pipeline's proof data -/

/-- The pipeline's proof data on core `c`: the arrays as the call finds them, each input buffer at its block, and the output
    buffers at `outsAt0` or `outsAt1`. -/
def dats (c : Dev nD) : Dat τ (Elt F) Unit ℕ (UR sig nD τ) ℕ cfg1 c where
  A w := V m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt1 m c t.val t.isLt).1
  Φ t := PhiS m c t.val (Nat.le_of_lt_succ t.isLt)
  q _ := fullShare
  owed _ := 0

/-- The arrays are as the call finds them. -/
theorem A_eq (c : Dev nD) (w : Fin cfg1.W) : (dats m c).A w = V m c (Pipeline.arrRef spec1 w) := by
  dsimp only [dats]

/-- The invariant at a point's start. -/
theorem PhiS_castSucc (c : Dev nD) (t : Fin cfg1.N) :
    (dats m c).Φ t.castSucc = PhiS m c t.val (Nat.le_of_lt t.isLt) := by
  dsimp only [dats]; exact Pipeline.Dat.Φ_castSucc (PhiS m c) t

/-- What the body leaves in each window's buffer. -/
theorem after1_0 (c : Dev nD) (t : Fin cfg1.N) : (dats m c).after 0 t = iblk m c 0 t := by dsimp only [dats]
theorem after1_1 (c : Dev nD) (t : Fin cfg1.N) : (dats m c).after 1 t = iblk m c 1 t := by dsimp only [dats]
theorem after1_2 (c : Dev nD) (t : Fin cfg1.N) : (dats m c).after 2 t = iblk m c 2 t := by dsimp only [dats]
theorem after1_3 (c : Dev nD) (t : Fin cfg1.N) : (dats m c).after 3 t = iblk m c 3 t := by dsimp only [dats]
theorem after1_4 (c : Dev nD) (t : Fin cfg1.N) : (dats m c).after 4 t = (outsAt1 m c t.val t.isLt).1 := by dsimp only [dats]

/-- Each input buffer holds its block at every point. -/
theorem before1_0 (c : Dev nD) (t : Fin cfg1.N) (d) : (dats m c).before 0 t d = iblk m c 0 t :=
  before1_0_of m (dats m c) (A_eq m c 0) (after1_0 m c) t d
theorem before1_1 (c : Dev nD) (t : Fin cfg1.N) (d) : (dats m c).before 1 t d = iblk m c 1 t :=
  before1_1_of m (dats m c) (A_eq m c 1) (after1_1 m c) t d
theorem before1_2 (c : Dev nD) (t : Fin cfg1.N) (d) : (dats m c).before 2 t d = iblk m c 2 t :=
  before1_2_of m (dats m c) (A_eq m c 2) (after1_2 m c) t d
theorem before1_3 (c : Dev nD) (t : Fin cfg1.N) (d) : (dats m c).before 3 t d = iblk m c 3 t :=
  before1_3_of m (dats m c) (A_eq m c 3) (after1_3 m c) t d

/-! ## The body obligation -/

/-- What the body is given at point `t`. -/
def bodyPre (c : Dev nD) (t : Fin cfg1.N) : sProp 𝕄 :=
  iprop((dats m c).Φ t.castSucc ∗ (dats m c).owesAt () t.castSucc
    ∗ (∃ d, owns (c : Thread nD τ) (ms1_0 t) fullShare ((dats m c).before 0 t d))
    ∗ (∃ d, owns (c : Thread nD τ) (ms1_1 t) fullShare ((dats m c).before 1 t d))
    ∗ (∃ d, owns (c : Thread nD τ) (ms1_2 t) fullShare ((dats m c).before 2 t d))
    ∗ (∃ d, owns (c : Thread nD τ) (ms1_3 t) fullShare ((dats m c).before 3 t d))
    ∗ (∃ d, owns (c : Thread nD τ) (ms1_4 t) fullShare ((dats m c).before 4 t d)))

/-- What the body gives back at point `t`. -/
def bodyPost (c : Dev nD) (t : Fin cfg1.N) : sProp 𝕄 :=
  iprop((dats m c).Φ t.succ ∗ (dats m c).owesAt () t.succ
    ∗ owns (c : Thread nD τ) (ms1_0 t) fullShare ((dats m c).after 0 t)
    ∗ owns (c : Thread nD τ) (ms1_1 t) fullShare ((dats m c).after 1 t)
    ∗ owns (c : Thread nD τ) (ms1_2 t) fullShare ((dats m c).after 2 t)
    ∗ owns (c : Thread nD τ) (ms1_3 t) fullShare ((dats m c).after 3 t)
    ∗ owns (c : Thread nD τ) (ms1_4 t) fullShare ((dats m c).after 4 t))

set_option maxHeartbeats 3200000 in
/-- The body at any point turns what it is given into what it gives back, case by case. -/
theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before1_0, before1_1, before1_2, before1_3]
  rw [show (dats m c).owesAt () t.succ = (dats m c).owesAt () t.castSucc from rfl,
    after1_0, after1_1, after1_2, after1_3, after1_4]
  rw [show (dats m c).Φ t.succ = PhiS m c (t.val + 1) t.isLt from rfl, PhiS_succ]
  have hN : t.val < 12 := lt_of_lt_of_eq t.isLt (show cfg1.N = 12 from N_1)
  by_cases h0 : t.val % 3 = 0
  · by_cases hz : t.val = 0
    · rw [PhiS_castSucc m c t, PhiS_zero m c _ _ hz, PhiA1_eq]
      rw [outsAt1_A m c t h0]
      unfold out1_A_4 sout1_A_0; (try dsimp only)
      iintro ⟨⟨HS0, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover1_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
    · rw [PhiS_castSucc m c t, PhiS_pos m c _ _ hz]
      rw [outsAt1_A m c t h0]
      unfold out1_A_4 sout1_A_0; (try dsimp only)
      iintro ⟨⟨HS0, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover1_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
  · by_cases hz : t.val = 0
    · exfalso; have hN : t.val < 12 := lt_of_lt_of_eq t.isLt (show cfg1.N = 12 from N_1); omega
    · rw [PhiS_castSucc m c t, PhiS_pos m c _ _ hz]
      rw [outsAt1_B m c t h0]
      unfold out1_B_4 sout1_B_0; (try dsimp only)
      iintro ⟨⟨HS0, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_B_4 c _ _ _ _ _ _ _ _ _ _ _ _ _ _ _ _ _ _ _)

/-- The program's table names this body. -/
theorem defs₀_row (t : Fin cfg1.N) :
    defs₀ (F := F) .tc cfg1.body (cfg1.bodyArgs t (cfg1.slots t)) = bodyAt1 t := by
  unfold defs₀; rw [Defs.onTc_tc]

/-- The body's obligation at every point. -/
theorem body_obligation (c : Dev nD) : BodyObligation (dats (F := F) m c) (defs₀ (F := F)) Variants.none () Set.univ := fun t => by
  rw [bigSep_W1, bigSep_W1, defs₀_row]
  exact triple_restated (sound_body m c t) rfl .rfl fun _ => .rfl

/-- What the call starts with is the invariant before the first point. -/
theorem hin (c : Dev nD) : Pipeline.ΦA spec1 c ⊢ (dats m c).Φ 0 := by
  rw [show (dats m c).Φ 0 = PhiS m c 0 (Nat.zero_le _) from rfl, PhiS_zero m c 0 _ rfl]
  try exact Idealize.SL.BI.Entails.refl _

/-- After a later point the invariant gives back what the call started with. -/
theorem Phi_out (c : Dev nD) (t : Fin (cfg1.N + 1)) (ht : t.val ≠ 0) : (dats m c).Φ t ⊢ Pipeline.ΦA spec1 c := by
  rw [show (dats m c).Φ t = PhiS m c t.val (Nat.le_of_lt_succ t.isLt) from rfl, PhiS_pos m c _ _ ht, PhiA1_eq]
  iintro ⟨HS0, Hg⟩
  isplitl [HS0]
  · iexists _; iexact HS0
  iexact Hg

/-- The same after the last point. -/
theorem hout (c : Dev nD) : (dats m c).Φ (Fin.last cfg1.N) ⊢ Pipeline.ΦA spec1 c :=
  Phi_out m c _ (by rw [Fin.val_last]; have : cfg1.N = 12 := N_1; omega)

end Cert.KernelIdeal.R1

end
-- ==== Proof.R1.Value.lean ====
/- The second call's output and its kept mask, over the extended reals. -/
module

public import proofs.«01_k».proof.Proof.R1.Body
public import proofs.«01_k».proof.Proof.R0.Arrays
public import proofs.«01_k».proof.Proof.PayM

@[expose] public section

set_option maxRecDepth 16384

noncomputable section

namespace Cert.KernelIdeal.R1

open Cert.KernelIdeal.Gen Cert.KernelIdeal.Val
open Idealize.ShloMosaic Idealize.ShloMosaic.TcCoe Idealize.ShloMosaic.Tactic

open R0 (hz3 hz4 planeOf emb_at)
theorem hz2 : (![0, 0] : Fin 2 → Nat) = fun _ => 0 := by decide

/-- A plane of the cross products as it is loaded. -/
theorem ld_plane (p : Vec Ideal S1x8x226x226 .f32) (n : ℕ) (hn : n < 8) (inb) :
    View.ld p (Rect.unit (s := S1x8x226x226) ![0, n, 0, 0] ![1, 1, 226, 226] inb) = planeOf p ⟨n, hn⟩ := by
  funext x
  show p ((Rect.unit (s := S1x8x226x226) ![0, n, 0, 0] ![1, 1, 226, 226] inb).emb x) = _
  rw [emb_at n hn]
  rfl

theorem pay2_eq (v : Vec Ideal S1x32x224x224 .f32) (w : Vec Ideal S224x224 .f32) :
    k1_pay2 v w = fun j => v j * w (ix2 (j 2) (j 3)) := by
  funext j
  pointwise [k1_pay2]

section
variable (c : Dev nD) (i : grid1.Coords) (arg2 : Memref sig .tc .vmem S1x8x226x226 .f32) (harg2 : arg2.IsWhole) (arg3 : Memref sig .tc .vmem S1x224x224 .f32) (harg3 : arg3.IsWhole) (arg4 : Memref sig .tc .vmem S4x1x1 .f32) (harg4 : arg4.IsWhole) (arg5 : Memref sig .tc .vmem S1x32x224x224 .f32) (harg5 : arg5.IsWhole) (arg6 : Memref sig .tc .vmem S1x32x224x224 .f32) (harg6 : arg6.IsWhole) (arg7 : Memref sig .tc .vmem S224x224 .f32) (harg7 : arg7.IsWhole)
  (x0 : Vec Ideal S1x8x226x226 .f32) (x1 : Vec Ideal S1x224x224 .f32) (x2 : Vec Ideal S4x1x1 .f32) (x3 : Vec Ideal S1x32x224x224 .f32) (xs0 : Vec Ideal S224x224 .f32)

theorem mask_A (hc0 : cond1_0 i) :
    sout1_A_0 c i arg2 harg2 arg3 harg3 arg4 harg4 arg5 harg5 arg6 harg6 arg7 harg7 hc0 x0 x1 x2 x3
      = fun j => mask (mean x2) x1 (planeOf x0) (j 0) (j 1) := by
  unfold sout1_A_0
  rw [View.read_writes_junk_eq_canon]
  unfold kernelRun1_A
  dsimp only
  sl_unfold_words
  rw [View.canon_unit_zero (S := S224x224) hz2]
  simp only [View.readAt_eq_ld, harg2.read_unread, harg3.read_unread, harg4.read_unread, View.ld_unit_zero (S := S1x224x224) hz3, View.ld_unit_zero (S := S4x1x1) hz3]
  simp only [ld_plane x0 0 (by decide), ld_plane x0 1 (by decide), ld_plane x0 2 (by decide), ld_plane x0 3 (by decide),
    ld_plane x0 4 (by decide), ld_plane x0 5 (by decide), ld_plane x0 6 (by decide), ld_plane x0 7 (by decide)]
  exact funext (mask_at x2 x1 (planeOf x0))

theorem out_A (hc0 : cond1_0 i) :
    out1_A_4 c i arg2 harg2 arg3 harg3 arg4 harg4 arg5 harg5 arg6 harg6 arg7 harg7 hc0 x0 x1 x2 x3
      = fun j => x3 j * mask (mean x2) x1 (planeOf x0) (j 2) (j 3) := by
  have hm := mask_A c i arg2 harg2 arg3 harg3 arg4 harg4 arg5 harg5 arg6 harg6 arg7 harg7 x0 x1 x2 x3 hc0
  unfold sout1_A_0 at hm
  rw [View.read_writes_junk_eq_canon] at hm
  unfold kernelRun1_A at hm
  dsimp only at hm
  unfold out1_A_4
  rw [View.read_writes_junk_eq_canon]
  unfold kernelRun1_A
  dsimp only
  have h5 : ∀ M : Vec Ideal S224x224 .f32, View.canon (kernelRun1_A.sl.HS0_1 c arg2 harg2 arg3 harg3 arg4 harg4 x0 x1 x2) = M →
      kernelRun1_A.sl.v5 c arg2 harg2 arg3 harg3 arg4 harg4 arg7 x0 x1 x2 = M := by
    intro M hM
    unfold kernelRun1_A.sl.v5
    rw [View.readCov_eq_canon', hM]
    exact View.ld_unit_zero (S := S224x224) hz2 inb_S224x224_S224x224_0_0 M
  have h3 : kernelRun1_A.sl.v3 c arg5 harg5 x3 = x3 := by
    unfold kernelRun1_A.sl.v3
    simp only [View.readAt_eq_ld, harg5.read_unread, View.ld_unit_zero (S := S1x32x224x224) hz4]
  rw [h5 _ hm, h3, View.canon_unit_zero (S := S1x32x224x224) hz4, pay2_eq]
  rfl

theorem out_B (hc0 : ¬cond1_0 i) :
    out1_B_4 c i arg2 harg2 arg3 harg3 arg4 harg4 arg5 harg5 arg6 harg6 arg7 harg7 hc0 x0 x1 x2 x3 xs0
      = fun j => x3 j * xs0 (ix2 (j 2) (j 3)) := by
  unfold out1_B_4
  rw [View.read_writes_junk_eq_canon]
  unfold kernelRun1_B
  dsimp only
  sl_unfold_words
  rw [View.canon_unit_zero (S := S1x32x224x224) hz4]
  simp only [View.readAt_eq_ld, harg5.read_unread, harg7.read_unread, View.ld_unit_zero (S := S1x32x224x224) hz4, View.ld_unit_zero (S := S224x224) hz2]
  exact pay2_eq x3 xs0
end
end Cert.KernelIdeal.R1
-- ==== Proof.R1.Arrays.lean ====
/- The second call's result array, as a function of the four arrays it reads. -/
module

public import proofs.«01_k».proof.Proof.R1.Value

@[expose] public section

set_option maxRecDepth 16384

noncomputable section

namespace Cert.KernelIdeal.R1

open Cert.KernelIdeal.Gen Cert.KernelIdeal.Val
open Idealize.ShloMosaic Idealize.ShloMosaic.TcCoe Idealize.ShloMosaic.Tactic
open R0 (planeOf)

/-- Image `b`'s cross products. -/
def crossOf (C : Vec Ideal S4x8x226x226 .f32) (b : Fin 4) : Vec Ideal S1x8x226x226 .f32 := fun j => C (ix4 b (j 1) (j 2) (j 3))

/-- Image `b`'s squared lengths. -/
def sqOf (S : Vec Ideal S4x224x224 .f32) (b : Fin 4) : Vec Ideal S1x224x224 .f32 := fun j => S (ix3 b (j 1) (j 2))

/-- Image `b`'s mask, out of the first call's three arrays. -/
def maskOf (C : Vec Ideal S4x8x226x226 .f32) (S : Vec Ideal S4x224x224 .f32) (G : Vec Ideal S4x1x1 .f32) (b : Fin 4) (y x : Fin 224) : EReal :=
  mask (mean G) (sqOf S b) (planeOf (crossOf C b)) y x

/-- The result, out of the four arrays. -/
def result (C : Vec Ideal S4x8x226x226 .f32) (S : Vec Ideal S4x224x224 .f32) (G : Vec Ideal S4x1x1 .f32) (X : Vec Ideal S4x96x224x224 .f32) :
    Vec Ideal S4x96x224x224 .f32 := fun j => X j * maskOf C S G (j 0) (j 2) (j 3)

/-- Where each window of the second call sits at a grid point. -/
theorem idx : ∀ t : Fin cfg1.N, win1_0.index t = ![t.val / 3, 0, 0, 0] ∧ win1_1.index t = ![t.val / 3, 0, 0]
    ∧ win1_2.index t = ![0, 0, 0] ∧ win1_3.index t = ![t.val / 3, t.val % 3, 0, 0] ∧ win1_4.index t = ![t.val / 3, t.val % 3, 0, 0] :=
  (by decide +kernel : ∀ t : Fin grid1.N, _)

variable (m : (ℓ : Loc nD τ sig) → Buf (Elt Ideal) ℓ)

theorem iblk0_eq (c : Dev nD) (t : Fin cfg1.N) (b : ℕ) (hb : b < 4) (ht : t.val / 3 = b) :
    iblk m c 0 t = crossOf (m ((c : Thread nD τ).loc main_v0_0)) ⟨b, hb⟩ := by
  funext x
  unfold crossOf
  have e := (idx t).1
  rw [ht] at e
  blk_ext [iblk, V, e]

theorem iblk1_eq (c : Dev nD) (t : Fin cfg1.N) (b : ℕ) (hb : b < 4) (ht : t.val / 3 = b) :
    iblk m c 1 t = sqOf (m ((c : Thread nD τ).loc main_v0_1)) ⟨b, hb⟩ := by
  funext x
  unfold sqOf
  have e := (idx t).2.1
  rw [ht] at e
  blk_ext [iblk, V, e]

theorem iblk2_eq (c : Dev nD) (t : Fin cfg1.N) : iblk m c 2 t = m ((c : Thread nD τ).loc main_v0_2) := by
  funext x
  have e := (idx t).2.2.1
  blk_ext [iblk, V, e]

/-- The mask kept after any point of image `b`. -/
theorem mask_kept (c : Dev nD) (b : ℕ) (hb : b < 4) : ∀ (q : ℕ), q < 3 → ∀ (n : ℕ) (hn : n < cfg1.N), n = 3 * b + q →
    (outsAt1 m c n hn).2 = fun j => maskOf (m ((c : Thread nD τ).loc main_v0_0)) (m ((c : Thread nD τ).loc main_v0_1))
      (m ((c : Thread nD τ).loc main_v0_2)) ⟨b, hb⟩ (j 0) (j 1)
  | 0, _, n, hn, e => by
    rw [outsAt1_A m c ⟨n, hn⟩ (by show n % 3 = 0; omega)]
    dsimp only
    rw [mask_A, iblk0_eq m c ⟨n, hn⟩ b hb (by show n / 3 = b; omega), iblk1_eq m c ⟨n, hn⟩ b hb (by show n / 3 = b; omega), iblk2_eq]
    rfl
  | q + 1, hq, n, hn, e => by
    rw [outsAt1_B m c ⟨n, hn⟩ (by show ¬n % 3 = 0; omega)]
    dsimp only
    unfold sout1_B_0
    exact mask_kept c b hb q (by omega) (n - 1) (by omega) (by omega)

/-- A block of images times a mask. -/
def masked (v : Vec Ideal S1x32x224x224 .f32) (M : Fin 224 → Fin 224 → EReal) : Vec Ideal S1x32x224x224 .f32 := fun j => v j * M (j 2) (j 3)

/-- What is written back at any point of image `b`. -/
theorem out_at (c : Dev nD) (b : ℕ) (hb : b < 4) (t : Fin cfg1.N) (ht : t.val / 3 = b) :
    (outsAt1 m c t.val t.isLt).1 = masked (iblk m c 3 t) (maskOf (m ((c : Thread nD τ).loc main_v0_0)) (m ((c : Thread nD τ).loc main_v0_1))
      (m ((c : Thread nD τ).loc main_v0_2)) ⟨b, hb⟩) := by
  by_cases h0 : t.val % 3 = 0
  · rw [outsAt1_A m c t h0]
    dsimp only
    rw [out_A, iblk0_eq m c t b hb ht, iblk1_eq m c t b hb ht, iblk2_eq]
    rfl
  · rw [outsAt1_B m c t h0]
    dsimp only
    rw [out_B, mask_kept m c b hb (t.val % 3 - 1) (by omega) (t.val - 1) (by omega) (by omega)]
    rfl

theorem arr_out (c : Dev nD) : (dats m c).arrAt 4 cfg1.N = result (m ((c : Thread nD τ).loc main_v0_0)) (m ((c : Thread nD τ).loc main_v0_1))
      (m ((c : Thread nD τ).loc main_v0_2)) (m ((c : Thread nD τ).loc main_arg1)) := by
  refine (dats m c).arrAt_eq_of_covers 4 _ (by decide +kernel) fun t hf y => ?_
  have hN : t.val < 12 := lt_of_lt_of_eq t.isLt (show cfg1.N = 12 from N_1)
  have hb : t.val / 3 < 4 := by omega
  blk_simp
  rw [after1_4, out_at m c (t.val / 3) hb t rfl]
  have e := (idx t).2.2.2.2
  have e3 := (idx t).2.2.2.1
  have h1 : (y 1).val < 32 := (y 1).isLt
  refine Eq.trans ?_ (congrArg (result (m ((c : Thread nD τ).loc main_v0_0)) (m ((c : Thread nD τ).loc main_v0_1))
      (m ((c : Thread nD τ).loc main_v0_2)) (m ((c : Thread nD τ).loc main_arg1)))
      (?_ : ix4 ⟨t.val / 3, hb⟩ ⟨t.val % 3 * 32 + (y 1).val, by omega⟩ (y 2) (y 3) = _))
  · refine congrArg (· * maskOf (m ((c : Thread nD τ).loc main_v0_0)) (m ((c : Thread nD τ).loc main_v0_1))
      (m ((c : Thread nD τ).loc main_v0_2)) ⟨t.val / 3, hb⟩ (y 2) (y 3)) ?_
    blk_ext [iblk, V, e3]
  · blk_ext [e]
end Cert.KernelIdeal.R1
-- ==== Proof.Meet.lean ====
/- Both programs' results out of the same arrays, and their equality: first for a finite image, then for any. -/
module

public import proofs.«01_k».proof.Proof.Real
public import proofs.«01_k».proof.Proof.R0.Arrays
public import proofs.«01_k».proof.Proof.R1.Arrays

@[expose] public section

set_option maxRecDepth 16384

noncomputable section

namespace Cert.KReal

open Cert.KernelIdeal Cert.KernelIdeal.Gen Cert.KernelIdeal.Val Cert.KernelIdeal.R0 Cert.KernelIdeal.R1
open Cert.ReferenceIdeal.Val (ry rx chan dist9 box9 mean9 wexp9 powed9 mask9)
open Idealize.ShloMosaic Idealize.ShloMosaic.TcCoe Idealize.ShloMosaic.Tactic

/-- The cross products of an image over all its channels. -/
theorem cross_at (X : Vec Ideal S4x96x224x224 .f32) (b : Fin 4) (k : Fin 8) (y x : Fin 226) :
    crossTo X b.val b.isLt 3 (by decide) (ix4 0 k y x)
      = ∑ r : Fin 96, pad2 (chan X b r) (3 + y) (3 + x) * pad2 (chan X b r) (oy k + y) (ox k + x) := by
  rw [Fin.sum_univ_tiles 4 24 rfl, Fin.sum_univ_four]
  rfl

/-- The squared lengths of an image over all its channels. -/
theorem sq_at (X : Vec Ideal S4x96x224x224 .f32) (b : Fin 4) (y x : Fin 224) :
    sqTo X b.val b.isLt 3 (by decide) (ix3 0 y x) = ∑ r : Fin 96, chan X b r y x * chan X b r y x := by
  rw [Fin.sum_univ_tiles 4 24 rfl, Fin.sum_univ_four]
  rfl

theorem offsets : ∀ k : Fin 8, oy k = ry k.castSucc ∧ ox k = rx k.castSucc := by decide

/-- One offset's weight at a pixel. -/
def wR (v : Fin 4 → Fin 96 → Fin 224 → Fin 224 → ℝ) (b : Fin 4) (k : Fin 9) (y x : Fin 224) : ℝ :=
  Real.exp (-boxR (v b) k y x / (sumR v / 1806336) / 2)

theorem padR_sum (v : Fin 96 → Fin 224 → Fin 224 → ℝ) (y x : ℕ) :
    padR (fun a c => ∑ r, v r a c * v r a c) y x = ∑ r, padR (v r) y x * padR (v r) y x := by
  unfold padR
  split
  · rfl
  · simp

section
variable {X : Vec Ideal S4x96x224x224 .f32} {v : Fin 4 → Fin 96 → Fin 224 → Fin 224 → ℝ} (hX : ∀ b r y x, X (ix4 b r y x) = ((v b r y x : ℝ) : EReal))
include hX

theorem chan_real (b : Fin 4) (r : Fin 96) : chan X b r = fun a c => ((v b r a c : ℝ) : EReal) := by
  funext a c
  exact hX b r a c

theorem dist9_real (b : Fin 4) (k : Fin 9) (y x : ℕ) : dist9 X b k y x = ((dR (v b) k y x : ℝ) : EReal) := by
  unfold dist9 dR
  simp only [chan_real hX, pad2_coe, ← EReal.coe_sub, ← EReal.coe_mul, ← coe_sum]

theorem box9_real (b : Fin 4) (k : Fin 9) (y x : ℕ) : box9 X b k y x = ((boxR (v b) k y x : ℝ) : EReal) := by
  unfold box9 boxR
  simp only [dist9_real hX, ← EReal.coe_add]

theorem mean9_real : mean9 X = ((sumR v / 1806336 : ℝ) : EReal) := by
  unfold mean9
  simp only [box9_real hX, ← coe_sum, lit_count]
  exact div_real _ (by norm_num)

theorem dist_real (b : Fin 4) (k : Fin 8) (y x : Fin 226) :
    Val.dist (sqTo X b.val b.isLt 3 (by decide)) (planeOf (crossTo X b.val b.isLt 3 (by decide)) k) k y x = ((dR (v b) k.castSucc y x : ℝ) : EReal) := by
  have h1 : one (sqTo X b.val b.isLt 3 (by decide)) = fun a c => ((∑ r, v b r a c * v b r a c : ℝ) : EReal) := by
    funext a c
    refine (sq_at X b a c).trans ?_
    simp only [chan_real hX, ← EReal.coe_mul, ← coe_sum]
  have h2 := cross_at X b k y x
  simp only [chan_real hX, pad2_coe, ← EReal.coe_mul, ← coe_sum] at h2
  unfold Val.dist
  rw [show planeOf (crossTo X b.val b.isLt 3 (by decide)) k (ix4 0 0 y x) = _ from h2, h1, pad2_coe, pad2_coe, lit_two, padR_sum, padR_sum,
    ← EReal.coe_add, ← EReal.coe_mul, ← EReal.coe_sub, Finset.mul_sum, ← Finset.sum_add_distrib, ← Finset.sum_sub_distrib, (offsets k).1, (offsets k).2]
  unfold dR
  congr 1
  exact Finset.sum_congr rfl fun r _ => by ring

theorem box_real (b : Fin 4) (k : Fin 8) (y x : Fin 224) :
    box (sqTo X b.val b.isLt 3 (by decide)) (planeOf (crossTo X b.val b.isLt 3 (by decide)) k) k y x = ((boxR (v b) k.castSucc y x : ℝ) : EReal) := by
  unfold box
  simp only [dist_real hX, ← EReal.coe_add]
  unfold boxR
  congr 1
  ring

theorem total_real (b : Fin 4) :
    total (sqTo X b.val b.isLt 3 (by decide)) (planeOf (crossTo X b.val b.isLt 3 (by decide)))
      = ((∑ k : Fin 9, ∑ y : Fin 224, ∑ x : Fin 224, boxR (v b) k y x : ℝ) : EReal) := by
  rw [← sum_wt9]
  unfold total
  simp only [dist_real hX, lit_two, ← EReal.coe_add, ← EReal.coe_mul, ← coe_sum]
  congr 1
  refine Finset.sum_congr rfl fun y _ => Finset.sum_congr rfl fun x _ => congrArg (· * _) ?_
  have h8 : dR (v b) 8 y x = dR (v b) 3 y x := rfl
  simp only [Fin.sum_univ_succ, Fin.sum_univ_zero]
  show _ = dR (v b) 0 y x + (dR (v b) 1 y x + (dR (v b) 2 y x + (dR (v b) 3 y x + (dR (v b) 4 y x + (dR (v b) 5 y x + (dR (v b) 6 y x
    + (dR (v b) 7 y x + (dR (v b) 8 y x + 0))))))))
  rw [h8]
  show dR (v b) 0 y x + dR (v b) 1 y x + dR (v b) 2 y x + 2 * dR (v b) 3 y x + dR (v b) 4 y x + dR (v b) 5 y x + dR (v b) 6 y x + dR (v b) 7 y x = _
  ring

theorem mean_real : mean (gsum X) = ((sumR v / 1806336 : ℝ) : EReal) := by
  have h : ∀ a : Fin 4, gsum X (ix3 a 0 0) = _ := fun a => total_real hX a
  unfold mean
  simp only [h, ← coe_sum, lit_count]
  exact div_real _ (by norm_num)

variable (hv : ∃ b r y x, v b r y x ≠ 0)
include hv

theorem wexp_meet (b : Fin 4) (k : Fin 8) (y x : Fin 224) :
    wexp (mean (gsum X)) (sqTo X b.val b.isLt 3 (by decide)) (planeOf (crossTo X b.val b.isLt 3 (by decide)) k) k y x
      = ((wR v b k.castSucc y x : ℝ) : EReal) := by
  unfold wexp
  rw [box_real hX, mean_real hX]
  exact (wexp_real _ (by have := sumR_pos v hv; positivity)).1

theorem wexp9_meet (b : Fin 4) (k : Fin 9) (y x : Fin 224) :
    wexp9 X b k y x = ((wR v b k y x : ℝ) : EReal) := by
  unfold wexp9
  rw [box9_real hX, mean9_real hX]
  exact (wexp_real _ (by have := sumR_pos v hv; positivity)).2

end

section
variable {X : Vec Ideal S4x96x224x224 .f32} {b : Fin 4} {e : Fin 9 → Fin 224 → Fin 224 → ℝ} (he : ∀ k y x, 0 < e k y x) (h8 : e 8 = e 3)
  (hk : ∀ (k : Fin 8) (y x : Fin 224), wexp (mean (gsum X)) (sqTo X b.val b.isLt 3 (by decide)) (planeOf (crossTo X b.val b.isLt 3 (by decide)) k) k y x
    = ((e k.castSucc y x : ℝ) : EReal))
  (h9 : ∀ (k : Fin 9) (y x : Fin 224), wexp9 X b k y x = ((e k y x : ℝ) : EReal))
include he h8 hk h9

/-- Weights that agree have powers that agree and are positive. -/
theorem powed_meet (y x : Fin 224) : ∃ p : ℝ, 0 < p ∧ powed9 X b y x = (p : EReal)
    ∧ powed (mean (gsum X)) (sqTo X b.val b.isLt 3 (by decide)) (planeOf (crossTo X b.val b.isLt 3 (by decide))) y x = (p : EReal) := by
  obtain ⟨p, hp, h1, h2⟩ := pw_real (s := ∑ k : Fin 9, e k y x) (Finset.sum_pos (fun k _ => he k y x) ⟨0, Finset.mem_univ _⟩)
  refine ⟨p, hp, ?_, ?_⟩
  · unfold powed9
    simp only [h9, ← coe_sum]
    exact h2
  · rw [← h1]
    unfold powed
    simp only [hk, lit_two, ← EReal.coe_add, ← EReal.coe_mul]
    congr 2
    simp only [Fin.sum_univ_succ, Fin.sum_univ_zero]
    show e 0 y x + e 1 y x + e 2 y x + e 3 y x * 2 + e 4 y x + e 5 y x + e 6 y x + e 7 y x
      = e 0 y x + (e 1 y x + (e 2 y x + (e 3 y x + (e 4 y x + (e 5 y x + (e 6 y x + (e 7 y x + (e 8 y x + 0))))))))
    rw [h8]
    ring

/-- Weights that agree have masks that agree. -/
theorem mask_meet (y x : Fin 224) : maskOf (cross X) (sq X) (gsum X) b y x = mask9 X b y x := by
  choose p hp h9 hk using powed_meet he h8 hk h9
  have e1 : sqOf (sq X) b = sqTo X b.val b.isLt 3 (by decide) := by
    funext j
    obtain ⟨i, y, x, rfl⟩ : ∃ i y x, j = ix3 i y x := ⟨j 0, j 1, j 2, by blk_ext⟩
    obtain rfl : i = 0 := Subsingleton.elim _ _
    rfl
  have e2 : crossOf (cross X) b = crossTo X b.val b.isLt 3 (by decide) := by
    funext j
    obtain ⟨i, k, y, x, rfl⟩ : ∃ i k y x, j = ix4 i k y x := ⟨j 0, j 1, j 2, j 3, by blk_ext⟩
    obtain rfl : i = 0 := Subsingleton.elim _ _
    rfl
  unfold maskOf mask mask9
  rw [e1, e2]
  simp only [h9, hk, ← coe_sum]
  exact mask_real _ (Finset.sum_pos (fun a _ => Finset.sum_pos (fun c _ => hp a c) ⟨0, Finset.mem_univ _⟩) ⟨0, Finset.mem_univ _⟩)

end

/-! ## An image that is not finite -/

/-- An extended real that is no real. -/
def Inf (z : EReal) : Prop := z = ⊤ ∨ z = ⊥

theorem Inf.add {z : EReal} (h : Inf z) (w : EReal) : Inf (z + w) := by
  rcases h with rfl | rfl
  · induction w
    · exact .inr rfl
    · exact .inl rfl
    · exact .inl rfl
  · exact .inr (EReal.bot_add w)

theorem Inf.left {z : EReal} (h : Inf z) (w : EReal) : Inf (w + z) := by
  rw [add_comm]
  exact h.add w

theorem Inf.sub {z : EReal} (h : Inf z) (w : EReal) : Inf (z - w) := by
  rw [sub_eq_add_neg]
  exact h.add _

theorem Inf.mul {z : EReal} (h : Inf z) {c : ℝ} (hc : 0 < c) : Inf (z * (c : EReal)) := by
  rcases h with rfl | rfl
  · exact .inl (EReal.top_mul_coe_of_pos hc)
  · exact .inr (EReal.bot_mul_coe_of_pos hc)

theorem Inf.sq {z : EReal} (h : Inf z) : z * z = ⊤ := by
  rcases h with rfl | rfl <;> rfl

theorem Inf.sum {ι : Type} [Fintype ι] [DecidableEq ι] {f : ι → EReal} (i : ι) (h : Inf (f i)) : Inf (∑ i, f i) := by
  rw [← Finset.add_sum_erase _ _ (Finset.mem_univ i)]
  exact h.add _

/-- Dividing by an infinity gives zero. -/
theorem Inf.div {z : EReal} (h : Inf z) (a : EReal) : Ideal.div a z = 0 := by
  unfold Ideal.div
  rcases h with rfl | rfl <;> simp

section
variable {X : Vec Ideal S4x96x224x224 .f32}

/-- The padded image around one of its own places. -/
theorem pad2_in (f : Fin 224 → Fin 224 → EReal) (y x : Fin 224) : pad2 f (3 + (1 + y.val)) (3 + (1 + x.val)) = f y x := by
  unfold pad2
  rw [dif_pos (by omega)]
  congr 1 <;> ext <;> dsimp only <;> omega

variable {b : Fin 4} {r : Fin 96} {y x : Fin 224} (h : Inf (X (ix4 b r y x)))
include h

/-- The reference's mean is then infinite. -/
theorem mean9_inf : Inf (mean9 X) := by
  have hd : Inf (dist9 X b 0 (1 + y.val) (1 + x.val)) := by
    refine Inf.sum r (.inl (Inf.sq ?_))
    rw [pad2_in]
    exact Inf.sub h _
  have hb : Inf (box9 X b 0 y x) := by
    unfold box9
    exact ((((hd.left _).add _).add _).add _).add _
  have hs : Inf (∑ b : Fin 4, ∑ k : Fin 9, ∑ y : Fin 224, ∑ x : Fin 224, box9 X b k y x) :=
    Inf.sum b (Inf.sum 0 (Inf.sum y (Inf.sum x hb)))
  unfold mean9
  rw [lit_count, Ideal.div_coe (by norm_num)]
  exact hs.mul (by norm_num)

/-- The kernel's mean is then infinite. -/
theorem mean_inf : Inf (mean (gsum X)) := by
  have hq : Inf (one (sqTo X b.val b.isLt 3 (by decide)) y x) := by
    show Inf (sqTo X b.val b.isLt 3 (by decide) (ix3 0 y x))
    rw [sq_at]
    exact Inf.sum r (.inl (Inf.sq h))
  have hd : ∀ p, Inf (Val.dist (sqTo X b.val b.isLt 3 (by decide)) p 0 ⟨1 + y.val, by omega⟩ ⟨1 + x.val, by omega⟩) := fun p => by
    unfold Val.dist
    rw [pad2_in]
    exact (hq.add _).sub _
  have ht : Inf (gsum X (ix3 b 0 0)) := by
    show Inf (total _ _)
    unfold total
    refine Inf.sum ⟨1 + y.val, by omega⟩ (Inf.sum ⟨1 + x.val, by omega⟩ ?_)
    rw [← EReal.coe_mul]
    refine Inf.mul (((((((hd _).add _).add _).add _).add _).add _).add _ |>.add _) ?_
    have w : ∀ a : Fin 224, 0 < wt (1 + a.val) := fun a => by unfold wt; omega
    exact mul_pos (Nat.cast_pos.2 (w y)) (Nat.cast_pos.2 (w x))
  unfold mean
  rw [lit_count, Ideal.div_coe (by norm_num)]
  exact (Inf.sum b ht).mul (by norm_num)

/-- All weights are then one, and the masks agree. -/
theorem mask_inf (b : Fin 4) (y x : Fin 224) : maskOf (cross X) (sq X) (gsum X) b y x = mask9 X b y x := by
  have one : (1 : EReal) = ((1 : ℝ) : EReal) := rfl
  have zero : (0 : EReal) = ((0 : ℝ) : EReal) := rfl
  refine mask_meet (e := fun _ _ _ => 1) (fun _ _ _ => one_pos) rfl (fun k y x => ?_) (fun k y x => ?_) y x
  · unfold wexp
    rw [(mean_inf h).div, mul_zero, zero, Ideal.exp_coe, Real.exp_zero]
  · unfold wexp9
    rw [(mean9_inf h).div, zero, lit_two, one, div_real _ two_ne_zero, div_real _ one_ne_zero, Ideal.exp_coe, zero_div, zero_div, Real.exp_zero]

end

/-- The kernel's result is the reference's, for an image that is not zero and weights of one. -/
theorem result_eq (X Y : Vec Ideal S4x96x224x224 .f32) (W : Vec Ideal ReferenceIdeal.S9x1x3x3 .f32) (R : Vec Ideal ReferenceIdeal.S96x9x1x1 .f32)
    (hn : ∃ j, X j ≠ (0 : EReal)) (hW : ∀ j, W j = (1 : EReal)) (hR : ∀ j, R j = (1 : EReal)) :
    result (cross X) (sq X) (gsum X) Y = ReferenceIdeal.Read.val_main_v140 (F := Ideal) X Y W R := by
  have hm : ∀ b y x, maskOf (cross X) (sq X) (gsum X) b y x = mask9 X b y x := by
    by_cases hi : ∃ b r y x, Inf (X (ix4 b r y x))
    · obtain ⟨b, r, y, x, h⟩ := hi
      exact mask_inf h
    · have hX : ∀ b r y x, X (ix4 b r y x) = (((X (ix4 b r y x) : EReal).toReal : ℝ) : EReal) := fun b r y x =>
        (EReal.coe_toReal (fun h => hi ⟨b, r, y, x, .inl h⟩) (fun h => hi ⟨b, r, y, x, .inr h⟩)).symm
      have hv : ∃ b r y x, (X (ix4 b r y x) : EReal).toReal ≠ 0 := by
        obtain ⟨j, hj⟩ := hn
        obtain ⟨b, r, y, x, rfl⟩ : ∃ b r y x, j = ix4 b r y x := ⟨j 0, j 1, j 2, j 3, by blk_ext⟩
        exact ⟨b, r, y, x, fun h => hj (by rw [hX, h]; rfl)⟩
      exact fun b => mask_meet (e := wR _ b) (fun _ _ _ => Real.exp_pos _) rfl (wexp_meet hX hv b) (wexp9_meet hX hv b)
  funext j
  obtain ⟨b, r, y, x, rfl⟩ : ∃ b r y x, j = ix4 b r y x := ⟨j 0, j 1, j 2, j 3, by blk_ext⟩
  rw [ReferenceIdeal.Val.v140_at X Y W hW R hR, ← hm]
  rfl

end Cert.KReal
-- ==== Proof.Pre.lean ====
/- What the precondition says of the arrays. -/
module

public import proofs.«01_k».proof.Proof.Gen.Pre_admissible
public import Idealize.ShloMosaic.Lib.ReduceAll
public import Idealize.ShloMosaic.Lib.Pointwise

@[expose] public section

noncomputable section

namespace Cert.Pre

open Cert.Pre_admissible
open Idealize.ShloMosaic

/-- A fold by `or` over zeros, from zero, is zero. -/
theorem fold_or_zero {ι : Type} (f : ι → BitVec 1) (hf : ∀ i, f i = 0#1) : ∀ l : List ι, l.foldl (fun r n => IntOp.ori r (f n)) 0#1 = 0#1
  | [] => rfl
  | a :: l => by
    rw [List.foldl_cons, hf a]
    exact fold_or_zero f hf l

/-- An `or` over a whole array that comes out one met a one. -/
theorem any_one {s : Shape} {axes : List (Fin s.rank)} {t u : Shape} (x : s.Idx → BitVec 1) (init : u.Idx → BitVec 1) (h : s.ReducesTo axes t)
    (hu : 0 < u.numel) (j : t.Idx) (hi : init (Shape.Idx.first hu) = 0#1) (e : Host.reduce IntOp.ori x init h hu j = 1#1) : ∃ i, x i ≠ 0#1 := by
  by_contra hn
  have hc : ∀ i, x i = 0#1 := fun i => by_contra fun hi => hn ⟨i, hi⟩
  rw [Host.reduce_eq_foldl, hi, fold_or_zero x hc] at e
  exact absurd e (by decide)

/-- A comparison bit is one exactly when the comparison holds. -/
theorem bit (p : Prop) [Decidable p] : BitVec.ofBool (decide p) = 1#1 ↔ p := by
  by_cases h : p <;> simp [h]

/-- The first array is not zero everywhere, and the two weight arrays are ones. -/
theorem parts (X Y : FVec Ideal S4x96x224x224 .f32) (W : FVec Ideal S9x1x3x3 .f32) (R : FVec Ideal S96x9x1x1 .f32)
    (h : Cert.Pre_admissible.fn (F := Ideal) X Y W R = fun _ => 1#1) :
    (∃ j, X j ≠ (0 : EReal)) ∧ (∀ j, W j = (1 : EReal)) ∧ ∀ j, R j = (1 : EReal) := by
  haveI : Subsingleton S_.Idx := ⟨fun a b => funext fun i => i.elim0⟩
  have h0 := congrFun h (fun i => i.elim0)
  unfold Cert.Pre_admissible.fn at h0
  dsimp only at h0
  obtain ⟨h1, hR⟩ := IntOp.andi_eq_one.1 h0
  obtain ⟨hn, hW⟩ := IntOp.andi_eq_one.1 h1
  refine ⟨?_, fun j => ?_, fun j => ?_⟩
  · obtain ⟨j, hj⟩ := any_one _ _ _ _ _ rfl hn
    refine ⟨j, fun hz => hj ?_⟩
    show BitVec.ofBool (decide ((X j : EReal) ≠ Ideal.ofBits .f32 0x00000000#32)) = 0#1
    rw [hz, Ideal.ofBits_zero_f32]
    simp
  · have e : BitVec.ofBool (decide ((W j : EReal) = Ideal.ofBits .f32 0x3F800000#32)) = 1#1 := Host.reduce_andi_all _ _ _ _ _ hW j
    rwa [bit, Ideal.ofBits_one_f32] at e
  · have e : BitVec.ofBool (decide ((R j : EReal) = Ideal.ofBits .f32 0x3F800000#32)) = 1#1 := Host.reduce_andi_all _ _ _ _ _ hR j
    rwa [bit, Ideal.ofBits_one_f32] at e

end Cert.Pre
-- ==== Proof.Run.lean ====
/- The run of the whole kernel: the two calls one after the other, what each leaves in the buffers outside its own
   staging memory, and the state at the end. -/
module

public import proofs.«01_k».proof.Proof.R0.Body
public import proofs.«01_k».proof.Proof.R1.Body
public import proofs.«01_k».proof.Proof.Gen.KernelIdeal.Regions
public import Idealize.ShloMosaic.Lib.Pipeline.Frame
public import Idealize.ShloMosaic.Lib.Pipeline.FrameSuffix
public import Idealize.ShloMosaic.Lib.Pipeline.Regions
public import Idealize.ShloMosaic.Lib.Pipeline.RegionsLoop

@[expose] public section

noncomputable section

namespace Cert.KernelIdeal.Whole

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold between the calls -/

/-- Before the first call: the launch memory. -/
def W0 (c : Dev nD) : Valuation τ sig (Elt F) := fun b => m (c, b)

/-- Between the calls: the first call's arrays at what its pipeline leaves. -/
def W1 (c : Dev nD) : Valuation τ sig (Elt F) :=
  Pipeline.withArrays spec0 c (W0 m c) fun w => (R0.dats m c).arrAt w cfg0.N

/-- The memory the second call finds. -/
def m1 : (ℓ : Loc nD τ sig) → Buf (Elt F) ℓ := fun ℓ => W1 m ℓ.1 ℓ.2

/-- After the second call: its arrays at what its pipeline leaves. -/
def W2 (c : Dev nD) : Valuation τ sig (Elt F) :=
  Pipeline.withArrays spec1 c (W1 m c) fun w => (R1.dats (m1 m) c).arrAt w cfg1.N

theorem W1_arr (c : Dev nD) (w : Fin cfg0.W) :
    W1 m c (Proc.devRef .tc (Pipeline.arrRef spec0 w)) = (R0.dats m c).arrAt w cfg0.N := by
  unfold W1; exact Pipeline.withArrays_arr spec0 launch0.win.arr_inj c _ _ w

theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb

theorem W2_arr (c : Dev nD) (w : Fin cfg1.W) :
    W2 m c (Proc.devRef .tc (Pipeline.arrRef spec1 w)) = (R1.dats (m1 m) c).arrAt w cfg1.N := by
  unfold W2; exact Pipeline.withArrays_arr spec1 launch1.win.arr_inj c _ _ w

theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb

/-- The first call reads the old features and leaves them. -/
theorem W1_arg0 (c : Dev nD) : W1 m c main_arg0 = m ((c : Thread nD τ).loc main_arg0) :=
  (W1_arr m c 0).trans (((R0.dats m c).arrAt_in 0 rfl _).trans (R0.A_eq m c 0))

/-- The second call reads the features and leaves them. -/
theorem W2_arg1 (c : Dev nD) : W2 m c main_arg1 = m ((c : Thread nD τ).loc main_arg1) :=
  (W2_arr m c 3).trans (((R1.dats (m1 m) c).arrAt_in 3 rfl _).trans
    ((R1.A_eq (m1 m) c 3).trans (W1_of_ne m c main_arg1 (by decide))))

theorem W2_arg0 (c : Dev nD) : W2 m c main_arg0 = m ((c : Thread nD τ).loc main_arg0) :=
  (W2_of_ne m c main_arg0 (by decide)).trans (W1_arg0 m c)

theorem W2_arg2 (c : Dev nD) : W2 m c main_arg2 = m ((c : Thread nD τ).loc main_arg2) :=
  (W2_of_ne m c main_arg2 (by decide)).trans (W1_of_ne m c main_arg2 (by decide))

theorem W2_arg3 (c : Dev nD) : W2 m c main_arg3 = m ((c : Thread nD τ).loc main_arg3) :=
  (W2_of_ne m c main_arg3 (by decide)).trans (W1_of_ne m c main_arg3 (by decide))

/-! ## The two calls as segments -/

/-- The proof data of the two pipelines. -/
def pdats (p : Fin 2) (c : Dev nD) : Dat τ (Elt F) Unit ℕ (UR sig nD τ) ℕ (cfgs p) c :=
  match p with
  | 0 => R0.dats m c
  | 1 => R1.dats (m1 m) c

abbrev 𝒱₀ : Variants := Variants.none
abbrev L : GSem nD τ sig → Finset Unit := fun _ => ∅
abbrev lv : GSem nD τ sig → Unit → ℕ := fun _ _ => 0

/-- What a core keeps beside its buffers: its random-number register, and that it owes nothing. -/
abbrev R (c : Dev nD) : sProp 𝕄 :=
  iprop((∃ r, prngReg c r) ∗ ∃ W, owes (c : Thread nD τ) (0 : CellTallies nD τ sig Unit) W)

abbrev Wread (W : Dev nD → Valuation τ sig (Elt F)) (c : Dev nD) (b : Ref sig .tc) :
    Buf (Elt F) ((c : Thread nD τ).loc b) := W c b

/-- A core's state at the end. -/
abbrev Tend (c : Dev nD) : sProp 𝕄 :=
  iprop(StableHlo.held (c : Thread nD τ) (Pipeline.ucRefs τ sig) (W2 m c) ∗ ∃ r, prngReg c r)

theorem hF0 (c : Dev nD) (w : Fin cfg0.W) : (R0.dats m c).arrAt w cfg0.N = Wread (W1 m) c (Pipeline.arrRef spec0 w) :=
  (W1_arr m c w).symm
theorem hrest0 (c : Dev nD) : ∀ b, b ∉ Finset.univ.image (Pipeline.arrRef spec0) → Wread (W1 m) c b = Wread (W0 m) c b :=
  fun b hb => W1_of_ne m c b fun w e => hb (Finset.mem_image.mpr ⟨w, Finset.mem_univ _, e⟩)
theorem hF1 (c : Dev nD) (w : Fin cfg1.W) : (R1.dats (m1 m) c).arrAt w cfg1.N = Wread (W2 m) c (Pipeline.arrRef spec1 w) :=
  (W2_arr m c w).symm
theorem hrest1 (c : Dev nD) : ∀ b, b ∉ Finset.univ.image (Pipeline.arrRef spec1) → Wread (W2 m) c b = Wread (W1 m) c b :=
  fun b hb => W2_of_ne m c b fun w e => hb (Finset.mem_image.mpr ⟨w, Finset.mem_univ _, e⟩)

set_option backward.isDefEq.respectTransparency.types false in
/-- The first call, from the launch memory to the memory between the calls. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation m c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Wread (W0 m) c)
  hentry c := by
    rw [Pipeline.ownSems0_none]
    have hsplit := Pipeline.arrays_of_unscopedBufs (p := (0 : Fin 2)) (pcfgs (F := F)) adm (pdats m) launch0.win launch0.arr_whole c
      ((pdats m 0 c).share_full fun _ => rfl) (Wread (W0 m) c) (R0.A_eq m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := (0 : Fin 2)) (pcfgs (F := F)) adm (Ix := Unit) (Name := ℕ) (U := UR sig nD τ) (Lvl := ℕ)
      launch0.win launch0.arr_whole c (pdats m) ((pdats m 0 c).share_full fun _ => rfl)
      (Wread (W0 m) c) (Wread (W1 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call, from the memory between the calls to the memory at the end. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (m1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Wread (W1 m) c)
  hentry c := by
    rw [Pipeline.ownSems0_none]
    have hsplit := Pipeline.arrays_of_unscopedBufs (p := (1 : Fin 2)) (pcfgs (F := F)) adm (pdats m) launch1.win launch1.arr_whole c
      ((pdats m 1 c).share_full fun _ => rfl) (Wread (W1 m) c) (R1.A_eq (m1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R1.hin (m1 m) c)
    unfold Pipeline.ΦA
    iintro ⟨Hp, -, Hr⟩
    isplitl [Hr]; · iexact Hr
    iexact Hp
  hout c := by
    refine BIBase.Entails.trans (R1.hout (m1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := (1 : Fin 2)) (pcfgs (F := F)) adm (Ix := Unit) (Name := ℕ) (U := UR sig nD τ) (Lvl := ℕ)
      launch1.win launch1.arr_whole c (pdats m) ((pdats m 1 c).share_full fun _ => rfl)
      (Wread (W1 m) c) (Wread (W2 m) c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The kernel's items in order. -/
abbrev items (_ : Dev nD) : List (Pipeline.Seg (pcfgs (F := F)) adm (pdats m) () defs₀ 𝒱₀ L lv) :=
  [.region (reg0 m), .region (reg1 m)]

theorem held_ref (b : Ref sig .tc) (hb : ¬ (Proc.devRef .tc b : DevRef τ sig).isScoped) :
    (Proc.devRef .tc b : DevRef τ sig) ∈ Pipeline.ucRefs τ sig :=
  Finset.mem_filter.mpr ⟨StableHlo.devRef_mem_tcRefs b, hb⟩

set_option backward.isDefEq.respectTransparency.types false in
/-- Every run from memory `m` with zero counters ends, with every buffer outside the calls' own memory at `W2` and
    every counter zero. -/
theorem run_all : θ_run defs (onTc (τ := τ) (main (F := F))) ⟨m, fun _ => 0, ρ⟩ (fun r =>
    (∀ c : Dev nD, ∀ b ∈ Pipeline.ucRefs τ sig, r.2.mem (((c : Thread nD τ)).1, b) = W2 m c b)
      ∧ r.2.sem = fun _ => 0) :=
  Pipeline.θ_run_regions_kit_dev_sems (pcfgs (F := F)) adm (pdats m) () cellOf_inj emb₁ defs₀ 𝒱₀ L lv m ρ main (items m)
    (fun c Q => by
      rewrite [main_chain c, Pipeline.Seg.run_eq_chain,
        show (items m c).map Pipeline.Seg.prog = [
          Prog.lift (.customCall (Pipeline.entry 0) ()),
          Prog.lift (.customCall (Pipeline.entry 1) ()) ] from rfl]
      dsimp (config := { failIfUnchanged := false }) only
      exact .rfl)
    (fun c => by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := fun c => ⟨.rfl, .rfl, .rfl⟩)
    (hinit := by
      refine Pipeline.initEach L lv fun c => ?_
      rw [show unscopedBufs c (fun b => m ((c : Thread nD τ).loc b)) = StableHlo.held (c : Thread nD τ) (Pipeline.ucRefs τ sig) (W0 m c) from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h hz => ⟨h, funext fun g => hz g (.inr (regions_no_unscoped g.2))⟩)

/-- The run: the arguments end as launched, the result holds what the second call's pipeline leaves in its output
    array, and every counter reads zero. -/
theorem run : θ_run defs (onTc (τ := τ) (main (F := F))) ⟨m, fun _ => 0, ρ⟩ (fun r =>
    (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v1) = (R1.dats (m1 m) c).arrAt 4 cfg1.N)
      ∧ r.2.sem = fun _ => 0) :=
  (θ_run defs _ _).mono (fun r hr => ⟨fun c =>
    ⟨⟨(hr.1 c _ (held_ref main_arg0 (by decide))).trans (W2_arg0 m c), (hr.1 c _ (held_ref main_arg1 (by decide))).trans (W2_arg1 m c),
      (hr.1 c _ (held_ref main_arg2 (by decide))).trans (W2_arg2 m c), (hr.1 c _ (held_ref main_arg3 (by decide))).trans (W2_arg3 m c)⟩,
      (hr.1 c _ (held_ref main_v1 (by decide))).trans (W2_arr m c 4)⟩, hr.2⟩) (run_all m ρ)

end Cert.KernelIdeal.Whole

end
-- ==== Proof.Same.lean ====
/- No operation was rewritten for the ideal reading, so the two printed kernels are one program. -/
module

import all proofs.«01_k».proof.Kernel
import all proofs.«01_k».proof.KernelIdeal
public import proofs.«01_k».proof.Proof.Gen.Kernel
public import proofs.«01_k».proof.Proof.Gen.KernelIdeal

@[expose] public section

noncomputable section

namespace Cert.Same

open Idealize.ShloMosaic

variable {F : FTy → Type} [FloatOps F]

/-- The two calls' bodies agree, call by call. -/
theorem bodies_eq : Cert.Kernel.defs₀ (F := F) = Cert.KernelIdeal.defs₀ (F := F) := by
  refine congrArg Defs.onTc (funext fun l => funext fun a => ?_)
  match l, a with
  | 0, (t, s) => rfl
  | 1, (t, s) => rfl
  | ⟨_ + 2, h⟩, _ => exact absurd h (Nat.not_lt.2 (Nat.le_add_left _ _))

/-- So do the tables the programs run with. -/
theorem defs_eq : Cert.Kernel.defs (F := F) = Cert.KernelIdeal.defs (F := F) :=
  congrArg (Pipeline.defs Cert.KernelIdeal.pcfgs) bodies_eq

/-- And the programs. -/
theorem main_eq : Cert.Kernel.main (F := F) = Cert.KernelIdeal.main (F := F) := rfl

end Cert.Same

end
-- ==== Proof.lean ====
module

import all proofs.«01_k».proof.Kernel
import all proofs.«01_k».proof.KernelIdeal
public import proofs.«01_k».proof.Defs
public import proofs.«01_k».proof.Proof.Gen.ReferenceIdeal.Run
public import proofs.«01_k».proof.Proof.Gen.ReferenceIdeal.Read
public import proofs.«01_k».proof.Proof.Gen.Pre_admissible
public import proofs.«01_k».proof.Proof.Gen.Kernel
public import proofs.«01_k».proof.Proof.Gen.KernelIdeal
public import proofs.«01_k».proof.Proof.Gen.ReferenceIdeal
public import proofs.«01_k».proof.Proof.Meet
public import proofs.«01_k».proof.Proof.Pre
public import proofs.«01_k».proof.Proof.Run
public import proofs.«01_k».proof.Proof.Same
public import Idealize.ShloMosaic.Adequacy
public import Idealize.ShloMosaic.Init

@[expose] public section

noncomputable section

namespace Cert.Proof

open Idealize.ShloMosaic Idealize.SL.Sem

/-- The kernel's text at any number format: it ends, leaves its arguments, and every counter reads zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run (Cert.KernelIdeal.defs (F := F)) _ _).mono (fun _ h => ⟨fun c => (h.1 c).1, h.2⟩)
    (Cert.KernelIdeal.Whole.run (F := F) m ρ)

/-- The kernel as printed: its text is the ideal program's. -/
theorem frame_kernel : Cert.quiescent_Kernel (hKernel := Cert.Kernel.Gen.facts) :=
  fun m ρ _ => by
    rw [Cert.Same.defs_eq (F := Bits)]
    exact frame_any (F := Bits) m ρ

/-- The kernel over extended reals. -/
theorem frame_ideal : Cert.quiescent_KernelIdeal (hKernelIdeal := Cert.KernelIdeal.Gen.facts) :=
  fun m ρ _ => frame_any (F := Ideal) m ρ

/-- The reference over extended reals; it has no counter. -/
theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- The kernel's result array, out of the launch memory. -/
theorem kernel_value (m : (ℓ : Loc Cert.KernelIdeal.nD Cert.KernelIdeal.τ Cert.KernelIdeal.sig) → Buf (Elt Ideal) ℓ) (c : Dev Cert.KernelIdeal.nD) :
    (Cert.KernelIdeal.R1.dats (Cert.KernelIdeal.Whole.m1 m) c).arrAt 4 Cert.KernelIdeal.cfg1.N
      = Cert.KernelIdeal.R1.result
          (Cert.KernelIdeal.R0.cross (m ((c.tc : Thread Cert.KernelIdeal.nD Cert.KernelIdeal.τ).loc Cert.KernelIdeal.main_arg0)))
          (Cert.KernelIdeal.R0.sq (m ((c.tc : Thread Cert.KernelIdeal.nD Cert.KernelIdeal.τ).loc Cert.KernelIdeal.main_arg0)))
          (Cert.KernelIdeal.R0.gsum (m ((c.tc : Thread Cert.KernelIdeal.nD Cert.KernelIdeal.τ).loc Cert.KernelIdeal.main_arg0)))
          (m ((c.tc : Thread Cert.KernelIdeal.nD Cert.KernelIdeal.τ).loc Cert.KernelIdeal.main_arg1)) := by
  have h0 := (Cert.KernelIdeal.Whole.W1_arr m c 1).trans (Cert.KernelIdeal.R0.arr_cross m c)
  have h1 := (Cert.KernelIdeal.Whole.W1_arr m c 2).trans (Cert.KernelIdeal.R0.arr_sq m c)
  have h2 := (Cert.KernelIdeal.Whole.W1_arr m c 3).trans (Cert.KernelIdeal.R0.arr_gsum m c)
  have h3 := Cert.KernelIdeal.Whole.W1_of_ne m c Cert.KernelIdeal.main_arg1 (by decide)
  rw [Cert.KernelIdeal.R1.arr_out]
  exact congr (congr (congr (congrArg Cert.KernelIdeal.R1.result h0) h1) h2) h3

/-- Both programs end with the same result. -/
theorem results : Cert.algebraic_KernelIdeal_ReferenceIdeal_pre_admissible (hKernelIdeal := Cert.KernelIdeal.Gen.facts)
    (hReferenceIdeal := Cert.ReferenceIdeal.Gen.facts) (hPre_admissible := Cert.Pre_admissible.Gen.facts) := fun m g m' g' hpre hargs => by
  refine ⟨fun c => (Cert.KernelIdeal.R1.dats (Cert.KernelIdeal.Whole.m1 m) c).arrAt 4 Cert.KernelIdeal.cfg1.N, ?_, ?_⟩
  · exact (θ_run (Cert.KernelIdeal.defs (F := Ideal)) _ _).mono (fun _ h c => ⟨(h.1 c).2, (h.1 c).1⟩)
      (Cert.KernelIdeal.Whole.run (F := Ideal) m g)
  · refine (θ_run (Cert.ReferenceIdeal.defs (F := Ideal)) _ _).mono (fun _ h c => ⟨(h c).1.trans ?_, (h c).2⟩)
      (Cert.ReferenceIdeal.Value.run (F := Ideal) m' g')
    obtain ⟨hn, hW, hR⟩ := Cert.Pre.parts _ _ _ _ (hpre c)
    obtain ⟨e0, e1, e2, e3⟩ := hargs c
    refine (Cert.ReferenceIdeal.Read.val_main_v140_eq _).trans
      (Eq.trans ?_ ((kernel_value m c).trans (Cert.KReal.result_eq _ _ _ _ hn hW hR)).symm)
    exact congr (congr (congr (congrArg (Cert.ReferenceIdeal.Read.val_main_v140 (F := Ideal)) e0) e1) e2) e3

theorem claim : Cert.Claim :=
  ⟨Cert.Kernel.Gen.facts, Cert.KernelIdeal.Gen.facts, Cert.ReferenceIdeal.Gen.facts, Cert.Pre_admissible.Gen.facts,
    frame_kernel, frame_ideal, fun m ρ _ => frame_ideal m ρ trivial, frame_reference, fun m ρ _ => frame_reference m ρ trivial, trivial, results⟩

end Cert.Proof

end
